-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S7424x8192 : Shape := ⟨2, ![7424, 8192]⟩
abbrev S7424x256 : Shape := ⟨2, ![7424, 256]⟩
abbrev S192x8192 : Shape := ⟨2, ![192, 8192]⟩
abbrev S192x7424 : Shape := ⟨2, ![192, 7424]⟩
abbrev S256x8192 : Shape := ⟨2, ![256, 8192]⟩
abbrev S256x256 : Shape := ⟨2, ![256, 256]⟩
abbrev S192x256 : Shape := ⟨2, ![192, 256]⟩
abbrev S8192x256 : Shape := ⟨2, ![8192, 256]⟩
abbrev S2x128x256 : Shape := ⟨3, ![2, 128, 256]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩
abbrev S32x256 : Shape := ⟨2, ![32, 256]⟩
abbrev S192x1x7424 : Shape := ⟨3, ![192, 1, 7424]⟩

abbrev nBuf : Space → Nat
  | .hbm => 6
  | .vmem => 9
  | .smem => 0
  | _ => 0

abbrev bufTy : (tb : Table) → Fin (tcTables nBuf tb) → BufTy
  | .hbm, ⟨0, _⟩ => ⟨S192x1x8192, .bf16⟩
  | .hbm, ⟨1, _⟩ => ⟨S7424x8192, .i8⟩
  | .hbm, ⟨2, _⟩ => ⟨S7424x256, .i16⟩
  | .hbm, ⟨3, _⟩ => ⟨S192x8192, .bf16⟩
  | .hbm, ⟨4, _⟩ => ⟨S192x7424, .bf16⟩
  | .hbm, ⟨5, _⟩ => ⟨S192x1x7424, .bf16⟩
  | .local _ .vmem, ⟨0, _⟩ => ⟨S192x8192, .bf16⟩
  | .local _ .vmem, ⟨1, _⟩ => ⟨S256x8192, .i8⟩
  | .local _ .vmem, ⟨2, _⟩ => ⟨S256x8192, .i8⟩
  | .local _ .vmem, ⟨3, _⟩ => ⟨S256x256, .i16⟩
  | .local _ .vmem, ⟨4, _⟩ => ⟨S256x256, .i16⟩
  | .local _ .vmem, ⟨5, _⟩ => ⟨S192x256, .bf16⟩
  | .local _ .vmem, ⟨6, _⟩ => ⟨S192x256, .bf16⟩
  | .local _ .vmem, ⟨7, _⟩ => ⟨S8192x256, .bf16⟩
  | .local _ .vmem, ⟨8, _⟩ => ⟨S2x128x256, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x8192 : Shape := ⟨3, ![192, 1, 8192]⟩
abbrev S7424x8192 : Shape := ⟨2, ![7424, 8192]⟩
abbrev S7424x256 : Shape := ⟨2, ![7424, 256]⟩
abbrev S192x1x7424 : Shape := ⟨3, ![192, 1, 7424]⟩
abbrev S7424x256x32 : Shape := ⟨3, ![7424, 256, 32]⟩
abbrev S7424x256x1 : Shape := ⟨3, ![7424, 256, 1]⟩

abbrev nBuf : Space → Nat
  | .hbm => 5
  | .vmem => 4
  | .smem => 0
  | _ => 0

abbrev bufTy : (tb : Table) → Fin (tcTables nBuf tb) → BufTy
  | .hbm, ⟨0, _⟩ => ⟨S192x1x8192, .bf16⟩
  | .hbm, ⟨1, _⟩ => ⟨S7424x8192, .i8⟩
  | .hbm, ⟨2, _⟩ => ⟨S7424x256, .i16⟩
  | .hbm, ⟨3, _⟩ => ⟨S7424x256, .f16⟩
  | .hbm, ⟨4, _⟩ => ⟨S192x1x7424, .bf16⟩
  | .local _ .vmem, ⟨0, _⟩ => ⟨S192x1x8192, .bf16⟩
  | .local _ .vmem, ⟨1, _⟩ => ⟨S7424x8192, .i8⟩
  | .local _ .vmem, ⟨2, _⟩ => ⟨S7424x256, .f16⟩
  | .local _ .vmem, ⟨3, _⟩ => ⟨S192x1x7424, .bf16⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S192x1x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7424x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7424x256 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x1x7424 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Linear.lean ====
/- The layer both programs compute, as a formula of the three arguments. -/
module

public import proofs.«01_k».proof.KernelIdeal
public import Idealize.ShloMosaic.PureOps.Ideal
public import Idealize.ShloMosaic.Lib.Pointwise

@[expose] public section

noncomputable section

namespace Cert.Proof

open Idealize.ShloMosaic Cert.KernelIdeal

/-- The linear layer's output at (row `r`, output feature `o`): the sum over the 8192 features `k` of activation times
    dequantized weight, the int8 weight times the float16 scale of its block `k / 32`, given by its bits. -/
def linear (a0 : Vec Ideal S192x1x8192 .bf16) (a1 : Vec Ideal S7424x8192 .i8) (a2 : Vec Ideal S7424x256 .i16)
    (r : Fin 192) (o : Fin 7424) : EReal :=
  ∑ k : Fin 8192, (a0 (ix3 r 0 k) : EReal) *
    ((((a1 (ix2 o k)).toInt : ℝ) : EReal) * Ideal.ofBits .f16 (a2 (ix2 o (⟨k.val / 32, by omega⟩ : Fin 256))))

end Cert.Proof

end
-- ==== Proof.Decode.lean ====
/- The kernel's decoding of a float16 scale, on one 32-bit word. The word's high half is the
   float16 bit pattern; what lies in the low half does not matter. -/
module

public import Idealize.ShloMosaic.PureOps.Ideal
public import Idealize.ShloMosaic.PureOps.Ideal.Laws
public import Idealize.ShloMosaic.PureOps.Vector

@[expose] public section

noncomputable section

namespace Cert.Proof

open Idealize.ShloMosaic

/-- The word the kernel reads as a float: the float16 fields moved to their float32 places. -/
def word (h : BitVec 32) : BitVec 32 :=
  IntOp.addi (IntOp.andi (IntOp.shrsi .vector h 3#32) 2415910912#32) 939524096#32

/-- The magnitude, with the small numbers (exponent field zero) put right. -/
def magOf (v : EReal) : EReal :=
  if Ideal.cmp .olt (max v (-v)) (Ideal.ofBits .f32 0x38800000#32) = 1
  then max v (-v) + (max v (-v) - Ideal.ofBits .f32 0x38800000#32) else max v (-v)

/-- The whole decoding of one word. -/
def decode (h : BitVec 32) : EReal :=
  if Ideal.cmp .oge (magOf (Ideal.ofBits .f32 (word h))) (Ideal.ofBits .f32 0x47800000#32) = 1
  then Ideal.ofBits .f32 (IntOp.ori (word h) 2139095040#32)
  else if IntOp.cmpi .slt h 0#32 = 1
    then magOf (Ideal.ofBits .f32 (word h)) * Ideal.ofBits .f32 0xBF800000#32
    else magOf (Ideal.ofBits .f32 (word h))

/-- The three fields of the word before the exponent's bias is added. -/
theorem fields (h : BitVec 32) :
    (IntOp.andi (IntOp.shrsi .vector h 3#32) 2415910912#32)
      = h.extractLsb' 31 1 ++ (0#3 ++ (h.extractLsb' 26 5 ++ (h.extractLsb' 16 10 ++ 0#13))) := by
  unfold IntOp.andi IntOp.shrsi
  rw [if_pos (by decide)]
  apply BitVec.eq_of_getLsbD_eq
  intro i hi
  simp only [BitVec.getLsbD_and, BitVec.getLsbD_append]
  simp only [BitVec.getLsbD_extractLsb', BitVec.sshiftRight', BitVec.getLsbD_sshiftRight]
  interval_cases i <;> simp [BitVec.msb_eq_getLsbD_last, BitVec.getElem_sshiftRight]

/-- The word as a number, from the float16's sign, exponent and fraction fields. -/
theorem word_toNat (h : BitVec 32) :
    (word h).toNat = (h.toNat / 2 ^ 31) * 2 ^ 31 + (h.toNat / 2 ^ 26 % 32 + 112) * 2 ^ 23
      + (h.toNat / 2 ^ 16 % 1024) * 2 ^ 13 := by
  unfold word
  rw [fields]
  unfold IntOp.addi
  have hl := h.isLt
  rw [BitVec.toNat_add]
  simp only [BitVec.toNat_append, BitVec.extractLsb'_toNat, BitVec.toNat_ofNat, Nat.shiftRight_eq_div_pow]
  rw [← Nat.shiftLeft_add_eq_or_of_lt (b := 0 % 2 ^ 13) (by omega)]
  rw [← Nat.shiftLeft_add_eq_or_of_lt (i := 10 + 13) (by simp only [Nat.shiftLeft_eq]; omega)]
  rw [← Nat.shiftLeft_add_eq_or_of_lt (i := 5 + (10 + 13)) (by simp only [Nat.shiftLeft_eq]; omega)]
  rw [← Nat.shiftLeft_add_eq_or_of_lt (i := 3 + (5 + (10 + 13))) (by simp only [Nat.shiftLeft_eq]; omega)]
  simp only [Nat.shiftLeft_eq]
  omega

/-- The three fields of an f32 pattern given as a number, where its exponent field is not all ones. -/
theorem ofBits_f32_of (w : BitVec 32) (s e f : ℕ) (hs : s < 2) (he0 : e ≠ 0) (he : e < 255) (hf : f < 2 ^ 23)
    (hw : w.toNat = s * 2 ^ 31 + e * 2 ^ 23 + f) :
    Ideal.ofBits .f32 w
      = (((if s = 1 then -1 else 1) * (8388608 + (f : ℝ)) * (2 : ℝ) ^ ((e : ℤ) - 127 - 23) : ℝ) : EReal) := by
  have h1 : (w.extractLsb' (8 + 23) 1 == 1#1) = decide (s = 1) := by
    rw [Bool.eq_iff_iff, beq_iff_eq, decide_eq_true_iff, ← BitVec.toNat_inj, BitVec.extractLsb'_toNat, hw, Nat.shiftRight_eq_div_pow]
    simp only [BitVec.toNat_ofNat]
    omega
  have h2 : (w.extractLsb' 23 8).toNat = e := by
    rw [BitVec.extractLsb'_toNat, hw, Nat.shiftRight_eq_div_pow]; omega
  have h3 : (w.extractLsb' 0 23).toNat = f := by
    rw [BitVec.extractLsb'_toNat, hw, Nat.shiftRight_eq_div_pow]; omega
  show Ideal.ieee 8 23 w = _
  unfold Ideal.ieee
  simp only [h1, h2, h3]
  rw [if_neg (by omega), if_neg he0]
  norm_num

/-- An f32 pattern whose exponent field is all ones. -/
theorem ofBits_f32_inf (w : BitVec 32) (s f : ℕ) (hs : s < 2) (hf : f < 2 ^ 23)
    (hw : w.toNat = s * 2 ^ 31 + 255 * 2 ^ 23 + f) :
    Ideal.ofBits .f32 w = if f = 0 then (if s = 1 then ⊥ else ⊤) else ⊥ := by
  have h1 : (w.extractLsb' (8 + 23) 1 == 1#1) = decide (s = 1) := by
    rw [Bool.eq_iff_iff, beq_iff_eq, decide_eq_true_iff, ← BitVec.toNat_inj, BitVec.extractLsb'_toNat, hw, Nat.shiftRight_eq_div_pow]
    simp only [BitVec.toNat_ofNat]
    omega
  have h2 : (w.extractLsb' 23 8).toNat = 255 := by
    rw [BitVec.extractLsb'_toNat, hw, Nat.shiftRight_eq_div_pow]; omega
  have h3 : (w.extractLsb' 0 23).toNat = f := by
    rw [BitVec.extractLsb'_toNat, hw, Nat.shiftRight_eq_div_pow]; omega
  show Ideal.ieee 8 23 w = _
  unfold Ideal.ieee
  simp only [h1, h2, h3]
  rw [if_pos (by norm_num)]
  simp

/-- A float16 pattern by its fields. -/
theorem ofBits_f16_of (b : BitVec 16) (s e f : ℕ) (hs : s < 2) (he : e < 32) (hf : f < 1024)
    (hw : b.toNat = s * 2 ^ 15 + e * 2 ^ 10 + f) :
    Ideal.ofBits .f16 b
      = if e = 31 then (if f = 0 then (if s = 1 then ⊥ else ⊤) else ⊥)
        else if e = 0 then (((if s = 1 then -1 else 1) * f * (2 : ℝ) ^ (-24 : ℤ) : ℝ) : EReal)
        else (((if s = 1 then -1 else 1) * (1024 + (f : ℝ)) * (2 : ℝ) ^ ((e : ℤ) - 15 - 10) : ℝ) : EReal) := by
  have h1 : (b.extractLsb' (5 + 10) 1 == 1#1) = decide (s = 1) := by
    rw [Bool.eq_iff_iff, beq_iff_eq, decide_eq_true_iff, ← BitVec.toNat_inj, BitVec.extractLsb'_toNat, hw, Nat.shiftRight_eq_div_pow]
    simp only [BitVec.toNat_ofNat]
    omega
  have h2 : (b.extractLsb' 10 5).toNat = e := by
    rw [BitVec.extractLsb'_toNat, hw, Nat.shiftRight_eq_div_pow]; omega
  have h3 : (b.extractLsb' 0 10).toNat = f := by
    rw [BitVec.extractLsb'_toNat, hw, Nat.shiftRight_eq_div_pow]; omega
  show Ideal.ieee 5 10 b = _
  unfold Ideal.ieee
  simp only [h1, h2, h3]
  norm_num

/-- `2^-14`, `65536` and `-1`. -/
theorem tiny_eq : Ideal.ofBits .f32 0x38800000#32 = (((2 : ℝ) ^ (-14 : ℤ) : ℝ) : EReal) := by
  rw [ofBits_f32_of _ 0 113 0 (by omega) (by omega) (by omega) (by omega) (by decide)]
  norm_num
theorem big_eq : Ideal.ofBits .f32 0x47800000#32 = ((65536 : ℝ) : EReal) := by
  rw [ofBits_f32_of _ 0 143 0 (by omega) (by omega) (by omega) (by omega) (by decide)]
  norm_num
theorem neg_one_eq : Ideal.ofBits .f32 0xBF800000#32 = ((-1 : ℝ) : EReal) := by
  rw [ofBits_f32_of _ 1 127 0 (by omega) (by omega) (by omega) (by omega) (by decide)]
  norm_num

theorem ofBool_one (p : Prop) [Decidable p] : BitVec.ofBool (decide p) = 1 ↔ p := by
  by_cases h : p
  · simp [h]
  · simp [h]

/-- Equal reals are equal extended reals. -/
theorem coe_of_eq {x y : ℝ} (h : x = y) : (x : EReal) = (y : EReal) := h ▸ rfl

theorem cmp_olt (x y : ℝ) : Ideal.cmp .olt (x : EReal) (y : EReal) = 1 ↔ x < y := by
  exact (ofBool_one _).trans EReal.coe_lt_coe_iff
theorem cmp_oge (x y : ℝ) : Ideal.cmp .oge (x : EReal) (y : EReal) = 1 ↔ y ≤ x := by
  exact (ofBool_one _).trans EReal.coe_le_coe_iff

/-- The magnitude of a real. -/
theorem magOf_coe (x M : ℝ) (hx : |x| = M) :
    magOf (x : EReal) = ((if M < (2 : ℝ) ^ (-14 : ℤ) then M + (M - (2 : ℝ) ^ (-14 : ℤ)) else M : ℝ) : EReal) := by
  have hm : max (x : EReal) (-(x : EReal)) = (M : EReal) := by
    rw [← hx, ← EReal.coe_neg, ← EReal.coe_strictMono.monotone.map_max]; rfl
  unfold magOf
  rw [hm, tiny_eq]
  simp only [cmp_olt]
  split_ifs
  · rw [EReal.coe_add, EReal.coe_sub]
  · rfl

/-- The magnitude of a word read as a float, put right: exponent field `e + 112`, fraction field `f * 2^13`. -/
theorem mag_real (g : ℝ) (n : ℤ) (x : ℝ) (hg : 0 ≤ g) (hg2 : g < 1024) (hn : 0 ≤ n)
    (hx : |x| = (8388608 + g * 8192) * (2 : ℝ) ^ (n - 38)) :
    magOf (x : EReal) = ((if n = 0 then g * (2 : ℝ) ^ (-24 : ℤ) else (1024 + g) * (2 : ℝ) ^ (n - 25) : ℝ) : EReal) := by
  have hp : (2 : ℝ) ^ (n - 25) = 8192 * (2 : ℝ) ^ (n - 38) := by
    rw [show n - 25 = 13 + (n - 38) by ring, zpow_add₀ (by norm_num)]; norm_num
  rw [magOf_coe _ ((1024 + g) * (2 : ℝ) ^ (n - 25)) (by rw [hx, hp]; ring)]
  refine coe_of_eq ?_
  by_cases h0 : n = 0
  · subst h0
    rw [if_pos rfl, if_pos]
    · norm_num; ring
    · norm_num; linarith
  · rw [if_neg h0, if_neg]
    have h1 : (2 : ℝ) ^ (-24 : ℤ) ≤ (2 : ℝ) ^ (n - 25) := zpow_le_zpow_right₀ (by norm_num) (by omega)
    have h3 : (2 : ℝ) ^ (-14 : ℤ) = 1024 * 2 ^ (-24 : ℤ) := by norm_num
    rw [not_lt, h3]
    exact mul_le_mul (by linarith) h1 (le_of_lt (zpow_pos (by norm_num) _)) (by linarith)

/-- The magnitude the kernel finds, from the float16's exponent and fraction. -/
theorem mag_word (w : BitVec 32) (s e f : ℕ) (hs : s < 2) (he : e < 32) (hf : f < 1024)
    (hw : w.toNat = s * 2 ^ 31 + (e + 112) * 2 ^ 23 + f * 2 ^ 13) :
    magOf (Ideal.ofBits .f32 w)
      = ((if (e : ℤ) = 0 then (f : ℝ) * (2 : ℝ) ^ (-24 : ℤ) else (1024 + (f : ℝ)) * (2 : ℝ) ^ ((e : ℤ) - 25) : ℝ) : EReal) := by
  rw [ofBits_f32_of w s (e + 112) (f * 2 ^ 13) hs (by omega) (by omega) (by omega) hw]
  have hf' : (f : ℝ) < 1024 := by exact_mod_cast hf
  have hf0 : (0 : ℝ) ≤ f := Nat.cast_nonneg f
  refine mag_real f e _ hf0 hf' (Int.natCast_nonneg e) ?_
  have hpos : (0 : ℝ) < (2 : ℝ) ^ ((e : ℤ) - 38) := zpow_pos (by norm_num) _
  rw [show ((e + 112 : ℕ) : ℤ) - 127 - 23 = (e : ℤ) - 38 by push_cast; ring]
  rw [show ((f * 2 ^ 13 : ℕ) : ℝ) = (f : ℝ) * 8192 by push_cast; norm_num]
  rw [abs_mul, abs_mul, abs_of_pos hpos, abs_of_nonneg (by linarith : (0 : ℝ) ≤ 8388608 + (f : ℝ) * 8192)]
  have : |(if s = 1 then (-1 : ℝ) else 1)| = 1 := by split_ifs <;> norm_num
  rw [this, one_mul]

/-- Below the all-ones exponent the magnitude is below `65536`. -/
theorem mag_small (g : ℝ) (n : ℤ) (hg2 : g < 1024) (hn : n ≤ 30) :
    (if n = 0 then g * (2 : ℝ) ^ (-24 : ℤ) else (1024 + g) * (2 : ℝ) ^ (n - 25) : ℝ) < 65536 := by
  split_ifs with h0
  · norm_num; linarith
  · have h1 : (2 : ℝ) ^ (n - 25) ≤ (2 : ℝ) ^ (5 : ℤ) := zpow_le_zpow_right₀ (by norm_num) (by omega)
    have h3 : (0 : ℝ) < (2 : ℝ) ^ (n - 25) := zpow_pos (by norm_num) _
    norm_num at h1
    nlinarith

/-- A word or-ed with the all-ones exponent field. -/
theorem or_inf (w : BitVec 32) :
    IntOp.ori w 2139095040#32 = w.extractLsb' 31 1 ++ (255#8 ++ w.extractLsb' 0 23) := by
  unfold IntOp.ori
  apply BitVec.eq_of_getLsbD_eq
  intro i hi
  simp only [BitVec.getLsbD_or, BitVec.getLsbD_append]
  simp only [BitVec.getLsbD_extractLsb']
  interval_cases i <;> simp

/-- The sign test. -/
theorem neg_iff (h : BitVec 32) : IntOp.cmpi .slt h 0#32 = 1 ↔ h.toNat / 2 ^ 31 = 1 := by
  have hl := h.isLt
  have : IntOp.cmpi .slt h 0#32 = BitVec.ofBool (decide (h.toNat / 2 ^ 31 = 1)) := by
    unfold IntOp.cmpi
    simp only [BitVec.slt_zero_eq_msb, BitVec.msb_eq_decide]
    congr 1
    apply decide_eq_decide.2
    omega
  rw [this]
  exact ofBool_one _

/-- The word of an infinity or a NaN. -/
theorem or_toNat (w : BitVec 32) (s f : ℕ) (hs : s < 2) (hf : f < 1024)
    (hw : w.toNat = s * 2 ^ 31 + (31 + 112) * 2 ^ 23 + f * 2 ^ 13) :
    (IntOp.ori w 2139095040#32).toNat = s * 2 ^ 31 + 255 * 2 ^ 23 + f * 2 ^ 13 := by
  rw [or_inf]
  simp only [BitVec.toNat_append, BitVec.extractLsb'_toNat, BitVec.toNat_ofNat, Nat.shiftRight_eq_div_pow]
  rw [← Nat.shiftLeft_add_eq_or_of_lt (i := 23) (by omega)]
  rw [← Nat.shiftLeft_add_eq_or_of_lt (i := 8 + 23) (by simp only [Nat.shiftLeft_eq]; omega)]
  simp only [Nat.shiftLeft_eq, hw]
  omega

/-- The decoding by the fields. -/
theorem decode_fields (h : BitVec 32) (s e f : ℕ) (hs : s < 2) (he : e < 32) (hf : f < 1024)
    (hsign : h.toNat / 2 ^ 31 = s)
    (hw : (word h).toNat = s * 2 ^ 31 + (e + 112) * 2 ^ 23 + f * 2 ^ 13) :
    decode h
      = if e = 31 then (if f = 0 then (if s = 1 then ⊥ else ⊤) else ⊥)
        else if e = 0 then (((if s = 1 then -1 else 1) * f * (2 : ℝ) ^ (-24 : ℤ) : ℝ) : EReal)
        else (((if s = 1 then -1 else 1) * (1024 + (f : ℝ)) * (2 : ℝ) ^ ((e : ℤ) - 15 - 10) : ℝ) : EReal) := by
  unfold decode
  rw [mag_word (word h) s e f hs he hf hw, big_eq, neg_one_eq]
  simp only [cmp_oge, neg_iff, hsign]
  have hf' : (f : ℝ) < 1024 := by exact_mod_cast hf
  have hf0 : (0 : ℝ) ≤ f := Nat.cast_nonneg f
  by_cases h31 : e = 31
  · rw [h31] at hw
    have hor := or_toNat (word h) s f hs hf hw
    have hbig : (65536 : ℝ) ≤ (if (e : ℤ) = 0 then (f : ℝ) * (2 : ℝ) ^ (-24 : ℤ) else (1024 + (f : ℝ)) * (2 : ℝ) ^ ((e : ℤ) - 25) : ℝ) := by
      rw [h31]; norm_num; linarith
    rw [if_pos h31, if_pos hbig, ofBits_f32_inf _ s (f * 2 ^ 13) hs (by omega) hor]
    have : f * 2 ^ 13 = 0 ↔ f = 0 := by omega
    simp only [this]
  · have hsm := mag_small (f : ℝ) (e : ℤ) hf' (by omega)
    rw [if_neg h31, if_neg (not_le.2 hsm)]
    have hp : (e : ℤ) - 15 - 10 = (e : ℤ) - 25 := by ring
    rw [hp]
    have h00 : (e : ℤ) = 0 ↔ e = 0 := by omega
    simp only [h00]
    split_ifs
    · rw [← EReal.coe_mul]; exact coe_of_eq (by ring)
    · rw [← EReal.coe_mul]; exact coe_of_eq (by ring)
    · exact coe_of_eq (by ring)
    · exact coe_of_eq (by ring)

/-- The decoding is the float16's value: every pattern, the subnormals, infinities and NaNs included. -/
theorem decode_eq (h : BitVec 32) (b : BitVec 16) (hb : b.toNat = h.toNat / 2 ^ 16) :
    decode h = Ideal.ofBits .f16 b := by
  have hl := h.isLt
  rw [ofBits_f16_of b (h.toNat / 2 ^ 31) (h.toNat / 2 ^ 26 % 32) (h.toNat / 2 ^ 16 % 1024)
    (by omega) (by omega) (by omega) (by omega)]
  exact decode_fields h _ _ _ (by omega) (by omega) (by omega) rfl (word_toNat h)

/-- The decoding as the kernel writes it, operation by operation, at any reading of the floats. -/
def decodeMag {F : FTy → Type} [FloatOps F] (t : BitVec 32) : F .f32 :=
  Scalar.select
    (FloatOps.cmpf .olt (FloatOps.absf (Scalar.ofBits (F := F) .f32 t)) (Scalar.ofBits .f32 0x38800000#32))
    (FloatOps.addf (FloatOps.absf (Scalar.ofBits (F := F) .f32 t))
      (FloatOps.subf (FloatOps.absf (Scalar.ofBits (F := F) .f32 t)) (Scalar.ofBits .f32 0x38800000#32)))
    (FloatOps.absf (Scalar.ofBits (F := F) .f32 t))

/-- The same: the whole. -/
def decodeOps {F : FTy → Type} [FloatOps F] (h : BitVec 32) : F .f32 :=
  Scalar.select (FloatOps.cmpf .oge (decodeMag (F := F) (word h)) (Scalar.ofBits .f32 0x47800000#32))
    (Scalar.ofBits (F := F) .f32 (IntOp.ori (word h) 2139095040#32))
    (Scalar.select (IntOp.cmpi .slt h 0#32)
      (FloatOps.mulf (decodeMag (F := F) (word h)) (Scalar.ofBits .f32 0xBF800000#32))
      (decodeMag (F := F) (word h)))

theorem decodeMag_ideal (t : BitVec 32) : decodeMag (F := Ideal) t = magOf (Ideal.ofBits .f32 t) := rfl

theorem decodeOps_ideal (h : BitVec 32) : decodeOps (F := Ideal) h = decode h := by
  unfold decodeOps
  rw [decodeMag_ideal]
  rfl

end Cert.Proof

end
-- ==== Proof.Scales.lean ====
/- What one grid point's scratch of decoded scales holds: at (parity `p`, pair `q`, column `c`) the float16
   value of the scale of block `2q + p` of the tile's row `c`. -/
module

public import proofs.«01_k».proof.Proof.Decode
public import proofs.«01_k».proof.Proof.Gen.KernelIdeal.Frame
public import Idealize.ShloMosaic.Lib.Pointwise
public import Idealize.ShloMosaic.Lib.BitcastPair
public import Idealize.ShloMosaic.Lib.Pipeline.ReadBack
public import Idealize.ShloMosaic.Lib.Pipeline.Value

@[expose] public section

set_option maxRecDepth 16384

noncomputable section

namespace Cert.Proof

open Idealize.ShloMosaic Cert.KernelIdeal Cert.KernelIdeal.Gen

/-- The decoded scales as one function of the scratch's index. -/
def scales (x2 : Vec Ideal S256x256 .i16) : Vec Ideal S2x128x256 .f32 := fun y =>
  Ideal.ofBits .f16 (x2 (ix2 (y 2) (⟨2 * (y 1).val + (y 0).val, by
    have h1 : (y 1).val < 128 := (y 1).isLt
    have h0 : (y 0).val < 2 := (y 0).isLt
    omega⟩ : Fin 256)))

/-- A pair of float16 patterns read as one 32-bit word: the even block's in the low half. -/
theorem pair_word (x2 : Vec Ideal S256x256 .i16) (j : S128x256.Idx) :
    k0_pay1 (F := Ideal) x2 j
      = (x2 (ix2 (j 1) (⟨2 * (j 0).val + 1, by have h : (j 0).val < 128 := (j 0).isLt; omega⟩ : Fin 256)) : BitVec 16)
        ++ (x2 (ix2 (j 1) (⟨2 * (j 0).val, by have h : (j 0).val < 128 := (j 0).isLt; omega⟩ : Fin 256)) : BitVec 16) := by
  unfold k0_pay1
  dsimp only
  rw [bitcast_16_32]
  have hrow : S128x256.row j = (j 0).val := rfl
  congr 1
  · pointwise
    exact congrArg x2 (congrArg₂ ix2 (Fin.ext rfl) (Fin.ext rfl))
  · pointwise
    exact congrArg x2 (congrArg₂ ix2 (Fin.ext rfl) (Fin.ext rfl))

/-- A leading unit axis added. -/
theorem add_unit {α : Type} (v : S128x256.Idx → α) (h : S128x256.ShapeCasts S1x128x256) (x : S1x128x256.Idx) :
    shapeCast S1x128x256 v h x = v (ix2 (x 1) (x 2)) := by
  pointwise

section
variable {F : FTy → Type} [FloatOps F]

/-- A vector of words decoded. -/
def decodeV (v : S128x256.Idx → BitVec 32) : FVec F S128x256 .f32 := fun i => decodeOps (F := F) (v i)

theorem even_eq (x2 : Vec F S256x256 .i16) :
    k0_pay2 (F := F) x2
      = shapeCast S1x128x256 (decodeV (F := F) fun i => IntOp.shli .vector (k0_pay1 (F := F) x2 i) 16#32)
          shapeCasts_S128x256_S1x128x256 := rfl

theorem odd_eq (x2 : Vec F S256x256 .i16) :
    k0_pay4 (F := F) (k0_pay1 (F := F) x2) (k0_pay3 (F := F) x2) 939524096#32
      = shapeCast S1x128x256 (decodeV (F := F) (k0_pay1 (F := F) x2)) shapeCasts_S128x256_S1x128x256 := rfl

/-- The first store's payload: the even blocks. -/
theorem even_payload (x2 : Vec F S256x256 .i16) (x : S1x128x256.Idx) :
    k0_pay2 (F := F) x2 x = decodeOps (F := F) (IntOp.shli .vector (k0_pay1 (F := F) x2 (ix2 (x 1) (x 2))) 16#32) := by
  rw [even_eq, add_unit]; rfl

/-- The second store's payload: the odd blocks. -/
theorem odd_payload (x2 : Vec F S256x256 .i16) (x : S1x128x256.Idx) :
    k0_pay4 (F := F) (k0_pay1 (F := F) x2) (k0_pay3 (F := F) x2) 939524096#32 x
      = decodeOps (F := F) (k0_pay1 (F := F) x2 (ix2 (x 1) (x 2))) := by
  rw [odd_eq, add_unit]; rfl

end

/-- The high half of a word made of two halves, and of that word moved up by a half. -/
theorem high_append (a b : BitVec 16) : a.toNat = (a ++ b).toNat / 2 ^ 16 := by
  have ha := a.isLt
  have hb := b.isLt
  rw [BitVec.toNat_append, ← Nat.shiftLeft_add_eq_or_of_lt hb, Nat.shiftLeft_eq]
  omega

theorem high_shl (a b : BitVec 16) : b.toNat = (IntOp.shli .vector (a ++ b) 16#32).toNat / 2 ^ 16 := by
  have ha := a.isLt
  have hb := b.isLt
  unfold IntOp.shli
  rw [if_pos (by decide)]
  rw [BitVec.shiftLeft_eq', BitVec.toNat_shiftLeft, BitVec.toNat_append, ← Nat.shiftLeft_add_eq_or_of_lt hb, Nat.shiftLeft_eq, Nat.shiftLeft_eq]
  simp only [BitVec.toNat_ofNat, show 16 % 2 ^ 32 = 16 from rfl]
  omega

/-- The odd blocks' payload is the second plane of `scales`. -/
theorem odd_scales (x2 : Vec Ideal S256x256 .i16) (inb) (x : S1x128x256.Idx) :
    k0_pay4 (F := Ideal) (k0_pay1 (F := Ideal) x2) (k0_pay3 (F := Ideal) x2) 939524096#32 x
      = scales x2 ((Rect.unit (s := S2x128x256) ![1, 0, 0] S1x128x256.size inb).emb x) := by
  have h0 : (x 0).val < 1 := (x 0).isLt
  rw [odd_payload, decodeOps_ideal, pair_word]
  rw [decode_eq _ _ (high_append _ _)]
  unfold scales
  refine congrArg (Ideal.ofBits .f16) (congrArg x2 (congrArg₂ ix2 (Fin.ext ?_) (Fin.ext ?_)))
  · show (x 2).val = 0 + 1 * (x 2).val
    omega
  · show 2 * (x 1).val + 1 = 2 * (0 + 1 * (x 1).val) + (1 + 1 * (x 0).val)
    omega

/-- The even blocks' payload is the first plane of `scales`. -/
theorem even_scales (x2 : Vec Ideal S256x256 .i16) (inb) (x : S1x128x256.Idx) :
    k0_pay2 (F := Ideal) x2 x = scales x2 ((Rect.unit (s := S2x128x256) ![0, 0, 0] S1x128x256.size inb).emb x) := by
  have h0 : (x 0).val < 1 := (x 0).isLt
  rw [even_payload, decodeOps_ideal, pair_word]
  rw [decode_eq _ _ (high_shl _ _)]
  unfold scales
  refine congrArg (Ideal.ofBits .f16) (congrArg x2 (congrArg₂ ix2 (Fin.ext ?_) (Fin.ext ?_)))
  · show (x 2).val = 0 + 1 * (x 2).val
    omega
  · show 2 * (x 1).val = 2 * (0 + 1 * (x 1).val) + (0 + 1 * (x 0).val)
    omega

/-- The two stores of decoded scales, read at an index. -/
theorem scales_canon (c : Dev nD) (arg3 : Memref sig .tc .vmem S256x256 .i16) (harg3 : arg3.IsWhole)
    (x2 : Vec Ideal S256x256 .i16) :
    View.canon (kernelRun0_A.sl.HS1_2 (F := Ideal) c arg3 harg3 x2) = scales x2 := by
  have hz : (![0, 0] : Fin 2 → ℕ) = fun _ => 0 := by decide
  funext y
  refine View.canon_apply_of_pieces (scales x2) _ ?_ y
    (View.cover_of_tiledL (kernelRun0_A.sl.HS1_2 (F := Ideal) c arg3 harg3 x2) S1x128x256.size (by sl_kernel_rfl) y)
  refine View.PiecesOf.mem ?_
  sl_unfold_words
  simp only [View.readAt_eq_ld, harg3.read_unread]
  rw [View.ld_unit_zero hz]
  exact ⟨fun x => odd_scales x2 inb_S2x128x256_S1x128x256_1_0_0 x,
    fun x => even_scales x2 inb_S2x128x256_S1x128x256_0_0_0 x, trivial⟩

end Cert.Proof

end
-- ==== Proof.Weights.lean ====
/- What one grid point's scratch of dequantized weights holds: at (k, c), the int8 weight of the tile's row `c`
   and column `k`, times the float16 value of the scale of its block `k / 32`. The body stores it as 256 blocks of
   32 rows; each block's payload is one function (`wpay`) of the weights and scales it loads, and each is the
   restriction of one function (`weights`) of the scratch's index. -/
module

public import proofs.«01_k».proof.Proof.Scales

@[expose] public section

set_option maxRecDepth 16384

noncomputable section

namespace Cert.Proof

open Idealize.ShloMosaic Cert.KernelIdeal Cert.KernelIdeal.Gen

/-- The dequantized weights as one function of the scratch's index. -/
def weights (x1 : Vec Ideal S256x8192 .i8) (x2 : Vec Ideal S256x256 .i16) : Vec Ideal S8192x256 .bf16 := fun y =>
  (((x1 (ix2 (y 1) (y 0))).toInt : ℝ) : EReal) * Ideal.ofBits .f16 (x2 (ix2 (y 1) (⟨(y 0).val / 32, by
    have h0 : (y 0).val < 8192 := (y 0).isLt
    omega⟩ : Fin 256)))

/-- One block's payload: rows `o … o + 31` of the transposed 256×256 tile of weights, times one row of scales. -/
def wpay (raw : Vec Ideal S256x256 .i8) (v : Vec Ideal S1x1x256 .f32) (o : ℕ) (h : S256x256.Slices ![o, 0] S32x256) :
    FVec Ideal S32x256 .bf16 :=
  shapeCast S32x256 (truncf .bf16 (mulf
    (extractStridedSlice S32x256 ![o, 0] (extf .f32 (sitofp (F := Ideal) .bf16 (transpose S256x256 [1, 0] raw transposes_S256x256_p1_0_S256x256)) bitsLt_bf16_f32) h)
    (broadcastTo S32x256 (shapeCast S1x256 v shapeCasts_S1x1x256_S1x256) broadcasts_S1x256_S32x256)) bitsLt_bf16_f32)
    shapeCasts_S32x256_S32x256

theorem wpay_apply (raw : Vec Ideal S256x256 .i8) (v : Vec Ideal S1x1x256 .f32) (o : ℕ)
    (h : S256x256.Slices ![o, 0] S32x256) (ho : o + 32 ≤ 256) (x : S32x256.Idx) :
    wpay raw v o h x = (((raw (ix2 (x 1) (⟨o + (x 0).val, by
      have h0 : (x 0).val < 32 := (x 0).isLt
      omega⟩ : Fin 256))).toInt : ℝ) : EReal) * v (ix3 0 0 (x 1)) := by
  pointwise [wpay]
  rfl

/-- One row of the decoded scales, as the body loads it. -/
theorem scale_row (c : Dev nD) (arg3 : Memref sig .tc .vmem S256x256 .i16) (harg3 : arg3.IsWhole)
    (arg6 : Memref sig .tc .vmem S2x128x256 .f32) (x2 : Vec Ideal S256x256 .i16) (p q : ℕ)
    (inb : ∀ a, (![p, q, 0] : Fin 3 → ℕ) a + S1x1x256.size a ≤ S2x128x256.size a) (j : Fin 256) (b : Fin 256)
    (hb : b.val = 2 * q + p) :
    arg6.view.readCov (Val := Elt Ideal) (kernelRun0_A.sl.HS1_2 (F := Ideal) c arg3 harg3 x2)
      (Rect.unit (s := S2x128x256) ![p, q, 0] S1x1x256.size inb).toLoadRect (ix3 0 0 j)
      = Ideal.ofBits .f16 (x2 (ix2 j b)) := by
  rw [View.readCov_eq_canon', scales_canon]
  unfold scales
  refine congrArg (Ideal.ofBits .f16) (congrArg x2 (congrArg₂ ix2 (Fin.ext ?_) (Fin.ext ?_)))
  · show 0 + 1 * j.val = j.val
    omega
  · show 2 * (q + 1 * 0) + (p + 1 * 0) = b.val
    omega

/-- One block's payload is the block of `weights` at its rows. -/
theorem block (c : Dev nD) (arg2 : Memref sig .tc .vmem S256x8192 .i8) (harg2 : arg2.IsWhole)
    (arg3 : Memref sig .tc .vmem S256x256 .i16) (harg3 : arg3.IsWhole) (arg6 : Memref sig .tc .vmem S2x128x256 .f32)
    (x1 : Vec Ideal S256x8192 .i8) (x2 : Vec Ideal S256x256 .i16) (col o p q off : ℕ)
    (ho : o + 32 ≤ 256) (hoff : off = col + o) (hb : off = 32 * (2 * q + p))
    (h : S256x256.Slices ![o, 0] S32x256)
    (inb1 : ∀ a, (![0, col] : Fin 2 → ℕ) a + S256x256.size a ≤ S256x8192.size a)
    (inb2 : ∀ a, (![p, q, 0] : Fin 3 → ℕ) a + S1x1x256.size a ≤ S2x128x256.size a)
    (inb3 : ∀ a, (![off, 0] : Fin 2 → ℕ) a + S32x256.size a ≤ S8192x256.size a) (x : S32x256.Idx) :
    wpay (arg2.view.readAt (Elt Ideal) (Rect.unit (s := S256x8192) ![0, col] S256x256.size inb1).toLoadRect (harg2.unread x1))
        (arg6.view.readCov (Val := Elt Ideal) (kernelRun0_A.sl.HS1_2 (F := Ideal) c arg3 harg3 x2)
          (Rect.unit (s := S2x128x256) ![p, q, 0] S1x1x256.size inb2).toLoadRect) o h x
      = weights x1 x2 ((Rect.unit (s := S8192x256) ![off, 0] S32x256.size inb3).emb x) := by
  have h0 : (x 0).val < 32 := (x 0).isLt
  have h3 : off + 32 ≤ 8192 := inb3 0
  rw [wpay_apply _ _ _ _ ho, scale_row c arg3 harg3 arg6 x2 p q inb2 (x 1) ⟨off / 32, by omega⟩ (by
    show off / 32 = _
    omega)]
  simp only [View.readAt_eq_ld, harg2.read_unread]
  unfold weights
  refine congrArg₂ (fun (a : BitVec 8) (b : BitVec 16) => ((a.toInt : ℝ) : EReal) * Ideal.ofBits .f16 b)
    (congrArg x1 ?_) (congrArg x2 (congrArg₂ ix2 (Fin.ext ?_) (Fin.ext ?_)))
  · funext a
    fin_cases a
    · exact Fin.ext (show 0 + 1 * (x 1).val = 0 + 1 * (x 1).val from rfl)
    · exact Fin.ext (show col + 1 * (o + (x 0).val) = off + 1 * (x 0).val by omega)
  · show (x 1).val = 0 + 1 * (x 1).val
    omega
  · show off / 32 = (off + 1 * (x 0).val) / 32
    omega

/-- Every store of dequantized weights is a block of `weights`. -/
theorem weights_pieces (c : Dev nD) (arg2 : Memref sig .tc .vmem S256x8192 .i8) (harg2 : arg2.IsWhole)
    (arg3 : Memref sig .tc .vmem S256x256 .i16) (harg3 : arg3.IsWhole) (arg6 : Memref sig .tc .vmem S2x128x256 .f32)
    (x1 : Vec Ideal S256x8192 .i8) (x2 : Vec Ideal S256x256 .i16) :
    View.PiecesOf (weights x1 x2) (kernelRun0_A.sl.HS0_256 (F := Ideal) c arg2 harg2 arg3 harg3 arg6 x1 x2) := by
  have B := block c arg2 harg2 arg3 harg3 arg6 x1 x2
  exact ⟨
    fun x => B 7936 224 1 127 8160 (by decide) rfl rfl slices_S256x256_o224_0_S32x256 inb_S256x8192_S256x256_0_7936 inb_S2x128x256_S1x1x256_1_127_0 inb_S8192x256_S32x256_8160_0 x,
    fun x => B 7936 192 0 127 8128 (by decide) rfl rfl slices_S256x256_o192_0_S32x256 inb_S256x8192_S256x256_0_7936 inb_S2x128x256_S1x1x256_0_127_0 inb_S8192x256_S32x256_8128_0 x,
    fun x => B 7936 160 1 126 8096 (by decide) rfl rfl slices_S256x256_o160_0_S32x256 inb_S256x8192_S256x256_0_7936 inb_S2x128x256_S1x1x256_1_126_0 inb_S8192x256_S32x256_8096_0 x,
    fun x => B 7936 128 0 126 8064 (by decide) rfl rfl slices_S256x256_o128_0_S32x256 inb_S256x8192_S256x256_0_7936 inb_S2x128x256_S1x1x256_0_126_0 inb_S8192x256_S32x256_8064_0 x,
    fun x => B 7936 96 1 125 8032 (by decide) rfl rfl slices_S256x256_o96_0_S32x256 inb_S256x8192_S256x256_0_7936 inb_S2x128x256_S1x1x256_1_125_0 inb_S8192x256_S32x256_8032_0 x,
    fun x => B 7936 64 0 125 8000 (by decide) rfl rfl slices_S256x256_o64_0_S32x256 inb_S256x8192_S256x256_0_7936 inb_S2x128x256_S1x1x256_0_125_0 inb_S8192x256_S32x256_8000_0 x,
    fun x => B 7936 32 1 124 7968 (by decide) rfl rfl slices_S256x256_o32_0_S32x256 inb_S256x8192_S256x256_0_7936 inb_S2x128x256_S1x1x256_1_124_0 inb_S8192x256_S32x256_7968_0 x,
    fun x => B 7936 0 0 124 7936 (by decide) rfl rfl slices_S256x256_o0_0_S32x256 inb_S256x8192_S256x256_0_7936 inb_S2x128x256_S1x1x256_0_124_0 inb_S8192x256_S32x256_7936_0 x,
    fun x => B 7680 224 1 123 7904 (by decide) rfl rfl slices_S256x256_o224_0_S32x256 inb_S256x8192_S256x256_0_7680 inb_S2x128x256_S1x1x256_1_123_0 inb_S8192x256_S32x256_7904_0 x,
    fun x => B 7680 192 0 123 7872 (by decide) rfl rfl slices_S256x256_o192_0_S32x256 inb_S256x8192_S256x256_0_7680 inb_S2x128x256_S1x1x256_0_123_0 inb_S8192x256_S32x256_7872_0 x,
    fun x => B 7680 160 1 122 7840 (by decide) rfl rfl slices_S256x256_o160_0_S32x256 inb_S256x8192_S256x256_0_7680 inb_S2x128x256_S1x1x256_1_122_0 inb_S8192x256_S32x256_7840_0 x,
    fun x => B 7680 128 0 122 7808 (by decide) rfl rfl slices_S256x256_o128_0_S32x256 inb_S256x8192_S256x256_0_7680 inb_S2x128x256_S1x1x256_0_122_0 inb_S8192x256_S32x256_7808_0 x,
    fun x => B 7680 96 1 121 7776 (by decide) rfl rfl slices_S256x256_o96_0_S32x256 inb_S256x8192_S256x256_0_7680 inb_S2x128x256_S1x1x256_1_121_0 inb_S8192x256_S32x256_7776_0 x,
    fun x => B 7680 64 0 121 7744 (by decide) rfl rfl slices_S256x256_o64_0_S32x256 inb_S256x8192_S256x256_0_7680 inb_S2x128x256_S1x1x256_0_121_0 inb_S8192x256_S32x256_7744_0 x,
    fun x => B 7680 32 1 120 7712 (by decide) rfl rfl slices_S256x256_o32_0_S32x256 inb_S256x8192_S256x256_0_7680 inb_S2x128x256_S1x1x256_1_120_0 inb_S8192x256_S32x256_7712_0 x,
    fun x => B 7680 0 0 120 7680 (by decide) rfl rfl slices_S256x256_o0_0_S32x256 inb_S256x8192_S256x256_0_7680 inb_S2x128x256_S1x1x256_0_120_0 inb_S8192x256_S32x256_7680_0 x,
    fun x => B 7424 224 1 119 7648 (by decide) rfl rfl slices_S256x256_o224_0_S32x256 inb_S256x8192_S256x256_0_7424 inb_S2x128x256_S1x1x256_1_119_0 inb_S8192x256_S32x256_7648_0 x,
    fun x => B 7424 192 0 119 7616 (by decide) rfl rfl slices_S256x256_o192_0_S32x256 inb_S256x8192_S256x256_0_7424 inb_S2x128x256_S1x1x256_0_119_0 inb_S8192x256_S32x256_7616_0 x,
    fun x => B 7424 160 1 118 7584 (by decide) rfl rfl slices_S256x256_o160_0_S32x256 inb_S256x8192_S256x256_0_7424 inb_S2x128x256_S1x1x256_1_118_0 inb_S8192x256_S32x256_7584_0 x,
    fun x => B 7424 128 0 118 7552 (by decide) rfl rfl slices_S256x256_o128_0_S32x256 inb_S256x8192_S256x256_0_7424 inb_S2x128x256_S1x1x256_0_118_0 inb_S8192x256_S32x256_7552_0 x,
    fun x => B 7424 96 1 117 7520 (by decide) rfl rfl slices_S256x256_o96_0_S32x256 inb_S256x8192_S256x256_0_7424 inb_S2x128x256_S1x1x256_1_117_0 inb_S8192x256_S32x256_7520_0 x,
    fun x => B 7424 64 0 117 7488 (by decide) rfl rfl slices_S256x256_o64_0_S32x256 inb_S256x8192_S256x256_0_7424 inb_S2x128x256_S1x1x256_0_117_0 inb_S8192x256_S32x256_7488_0 x,
    fun x => B 7424 32 1 116 7456 (by decide) rfl rfl slices_S256x256_o32_0_S32x256 inb_S256x8192_S256x256_0_7424 inb_S2x128x256_S1x1x256_1_116_0 inb_S8192x256_S32x256_7456_0 x,
    fun x => B 7424 0 0 116 7424 (by decide) rfl rfl slices_S256x256_o0_0_S32x256 inb_S256x8192_S256x256_0_7424 inb_S2x128x256_S1x1x256_0_116_0 inb_S8192x256_S32x256_7424_0 x,
    fun x => B 7168 224 1 115 7392 (by decide) rfl rfl slices_S256x256_o224_0_S32x256 inb_S256x8192_S256x256_0_7168 inb_S2x128x256_S1x1x256_1_115_0 inb_S8192x256_S32x256_7392_0 x,
    fun x => B 7168 192 0 115 7360 (by decide) rfl rfl slices_S256x256_o192_0_S32x256 inb_S256x8192_S256x256_0_7168 inb_S2x128x256_S1x1x256_0_115_0 inb_S8192x256_S32x256_7360_0 x,
    fun x => B 7168 160 1 114 7328 (by decide) rfl rfl slices_S256x256_o160_0_S32x256 inb_S256x8192_S256x256_0_7168 inb_S2x128x256_S1x1x256_1_114_0 inb_S8192x256_S32x256_7328_0 x,
    fun x => B 7168 128 0 114 7296 (by decide) rfl rfl slices_S256x256_o128_0_S32x256 inb_S256x8192_S256x256_0_7168 inb_S2x128x256_S1x1x256_0_114_0 inb_S8192x256_S32x256_7296_0 x,
    fun x => B 7168 96 1 113 7264 (by decide) rfl rfl slices_S256x256_o96_0_S32x256 inb_S256x8192_S256x256_0_7168 inb_S2x128x256_S1x1x256_1_113_0 inb_S8192x256_S32x256_7264_0 x,
    fun x => B 7168 64 0 113 7232 (by decide) rfl rfl slices_S256x256_o64_0_S32x256 inb_S256x8192_S256x256_0_7168 inb_S2x128x256_S1x1x256_0_113_0 inb_S8192x256_S32x256_7232_0 x,
    fun x => B 7168 32 1 112 7200 (by decide) rfl rfl slices_S256x256_o32_0_S32x256 inb_S256x8192_S256x256_0_7168 inb_S2x128x256_S1x1x256_1_112_0 inb_S8192x256_S32x256_7200_0 x,
    fun x => B 7168 0 0 112 7168 (by decide) rfl rfl slices_S256x256_o0_0_S32x256 inb_S256x8192_S256x256_0_7168 inb_S2x128x256_S1x1x256_0_112_0 inb_S8192x256_S32x256_7168_0 x,
    fun x => B 6912 224 1 111 7136 (by decide) rfl rfl slices_S256x256_o224_0_S32x256 inb_S256x8192_S256x256_0_6912 inb_S2x128x256_S1x1x256_1_111_0 inb_S8192x256_S32x256_7136_0 x,
    fun x => B 6912 192 0 111 7104 (by decide) rfl rfl slices_S256x256_o192_0_S32x256 inb_S256x8192_S256x256_0_6912 inb_S2x128x256_S1x1x256_0_111_0 inb_S8192x256_S32x256_7104_0 x,
    fun x => B 6912 160 1 110 7072 (by decide) rfl rfl slices_S256x256_o160_0_S32x256 inb_S256x8192_S256x256_0_6912 inb_S2x128x256_S1x1x256_1_110_0 inb_S8192x256_S32x256_7072_0 x,
    fun x => B 6912 128 0 110 7040 (by decide) rfl rfl slices_S256x256_o128_0_S32x256 inb_S256x8192_S256x256_0_6912 inb_S2x128x256_S1x1x256_0_110_0 inb_S8192x256_S32x256_7040_0 x,
    fun x => B 6912 96 1 109 7008 (by decide) rfl rfl slices_S256x256_o96_0_S32x256 inb_S256x8192_S256x256_0_6912 inb_S2x128x256_S1x1x256_1_109_0 inb_S8192x256_S32x256_7008_0 x,
    fun x => B 6912 64 0 109 6976 (by decide) rfl rfl slices_S256x256_o64_0_S32x256 inb_S256x8192_S256x256_0_6912 inb_S2x128x256_S1x1x256_0_109_0 inb_S8192x256_S32x256_6976_0 x,
    fun x => B 6912 32 1 108 6944 (by decide) rfl rfl slices_S256x256_o32_0_S32x256 inb_S256x8192_S256x256_0_6912 inb_S2x128x256_S1x1x256_1_108_0 inb_S8192x256_S32x256_6944_0 x,
    fun x => B 6912 0 0 108 6912 (by decide) rfl rfl slices_S256x256_o0_0_S32x256 inb_S256x8192_S256x256_0_6912 inb_S2x128x256_S1x1x256_0_108_0 inb_S8192x256_S32x256_6912_0 x,
    fun x => B 6656 224 1 107 6880 (by decide) rfl rfl slices_S256x256_o224_0_S32x256 inb_S256x8192_S256x256_0_6656 inb_S2x128x256_S1x1x256_1_107_0 inb_S8192x256_S32x256_6880_0 x,
    fun x => B 6656 192 0 107 6848 (by decide) rfl rfl slices_S256x256_o192_0_S32x256 inb_S256x8192_S256x256_0_6656 inb_S2x128x256_S1x1x256_0_107_0 inb_S8192x256_S32x256_6848_0 x,
    fun x => B 6656 160 1 106 6816 (by decide) rfl rfl slices_S256x256_o160_0_S32x256 inb_S256x8192_S256x256_0_6656 inb_S2x128x256_S1x1x256_1_106_0 inb_S8192x256_S32x256_6816_0 x,
    fun x => B 6656 128 0 106 6784 (by decide) rfl rfl slices_S256x256_o128_0_S32x256 inb_S256x8192_S256x256_0_6656 inb_S2x128x256_S1x1x256_0_106_0 inb_S8192x256_S32x256_6784_0 x,
    fun x => B 6656 96 1 105 6752 (by decide) rfl rfl slices_S256x256_o96_0_S32x256 inb_S256x8192_S256x256_0_6656 inb_S2x128x256_S1x1x256_1_105_0 inb_S8192x256_S32x256_6752_0 x,
    fun x => B 6656 64 0 105 6720 (by decide) rfl rfl slices_S256x256_o64_0_S32x256 inb_S256x8192_S256x256_0_6656 inb_S2x128x256_S1x1x256_0_105_0 inb_S8192x256_S32x256_6720_0 x,
    fun x => B 6656 32 1 104 6688 (by decide) rfl rfl slices_S256x256_o32_0_S32x256 inb_S256x8192_S256x256_0_6656 inb_S2x128x256_S1x1x256_1_104_0 inb_S8192x256_S32x256_6688_0 x,
    fun x => B 6656 0 0 104 6656 (by decide) rfl rfl slices_S256x256_o0_0_S32x256 inb_S256x8192_S256x256_0_6656 inb_S2x128x256_S1x1x256_0_104_0 inb_S8192x256_S32x256_6656_0 x,
    fun x => B 6400 224 1 103 6624 (by decide) rfl rfl slices_S256x256_o224_0_S32x256 inb_S256x8192_S256x256_0_6400 inb_S2x128x256_S1x1x256_1_103_0 inb_S8192x256_S32x256_6624_0 x,
    fun x => B 6400 192 0 103 6592 (by decide) rfl rfl slices_S256x256_o192_0_S32x256 inb_S256x8192_S256x256_0_6400 inb_S2x128x256_S1x1x256_0_103_0 inb_S8192x256_S32x256_6592_0 x,
    fun x => B 6400 160 1 102 6560 (by decide) rfl rfl slices_S256x256_o160_0_S32x256 inb_S256x8192_S256x256_0_6400 inb_S2x128x256_S1x1x256_1_102_0 inb_S8192x256_S32x256_6560_0 x,
    fun x => B 6400 128 0 102 6528 (by decide) rfl rfl slices_S256x256_o128_0_S32x256 inb_S256x8192_S256x256_0_6400 inb_S2x128x256_S1x1x256_0_102_0 inb_S8192x256_S32x256_6528_0 x,
    fun x => B 6400 96 1 101 6496 (by decide) rfl rfl slices_S256x256_o96_0_S32x256 inb_S256x8192_S256x256_0_6400 inb_S2x128x256_S1x1x256_1_101_0 inb_S8192x256_S32x256_6496_0 x,
    fun x => B 6400 64 0 101 6464 (by decide) rfl rfl slices_S256x256_o64_0_S32x256 inb_S256x8192_S256x256_0_6400 inb_S2x128x256_S1x1x256_0_101_0 inb_S8192x256_S32x256_6464_0 x,
    fun x => B 6400 32 1 100 6432 (by decide) rfl rfl slices_S256x256_o32_0_S32x256 inb_S256x8192_S256x256_0_6400 inb_S2x128x256_S1x1x256_1_100_0 inb_S8192x256_S32x256_6432_0 x,
    fun x => B 6400 0 0 100 6400 (by decide) rfl rfl slices_S256x256_o0_0_S32x256 inb_S256x8192_S256x256_0_6400 inb_S2x128x256_S1x1x256_0_100_0 inb_S8192x256_S32x256_6400_0 x,
    fun x => B 6144 224 1 99 6368 (by decide) rfl rfl slices_S256x256_o224_0_S32x256 inb_S256x8192_S256x256_0_6144 inb_S2x128x256_S1x1x256_1_99_0 inb_S8192x256_S32x256_6368_0 x,
    fun x => B 6144 192 0 99 6336 (by decide) rfl rfl slices_S256x256_o192_0_S32x256 inb_S256x8192_S256x256_0_6144 inb_S2x128x256_S1x1x256_0_99_0 inb_S8192x256_S32x256_6336_0 x,
    fun x => B 6144 160 1 98 6304 (by decide) rfl rfl slices_S256x256_o160_0_S32x256 inb_S256x8192_S256x256_0_6144 inb_S2x128x256_S1x1x256_1_98_0 inb_S8192x256_S32x256_6304_0 x,
    fun x => B 6144 128 0 98 6272 (by decide) rfl rfl slices_S256x256_o128_0_S32x256 inb_S256x8192_S256x256_0_6144 inb_S2x128x256_S1x1x256_0_98_0 inb_S8192x256_S32x256_6272_0 x,
    fun x => B 6144 96 1 97 6240 (by decide) rfl rfl slices_S256x256_o96_0_S32x256 inb_S256x8192_S256x256_0_6144 inb_S2x128x256_S1x1x256_1_97_0 inb_S8192x256_S32x256_6240_0 x,
    fun x => B 6144 64 0 97 6208 (by decide) rfl rfl slices_S256x256_o64_0_S32x256 inb_S256x8192_S256x256_0_6144 inb_S2x128x256_S1x1x256_0_97_0 inb_S8192x256_S32x256_6208_0 x,
    fun x => B 6144 32 1 96 6176 (by decide) rfl rfl slices_S256x256_o32_0_S32x256 inb_S256x8192_S256x256_0_6144 inb_S2x128x256_S1x1x256_1_96_0 inb_S8192x256_S32x256_6176_0 x,
    fun x => B 6144 0 0 96 6144 (by decide) rfl rfl slices_S256x256_o0_0_S32x256 inb_S256x8192_S256x256_0_6144 inb_S2x128x256_S1x1x256_0_96_0 inb_S8192x256_S32x256_6144_0 x,
    fun x => B 5888 224 1 95 6112 (by decide) rfl rfl slices_S256x256_o224_0_S32x256 inb_S256x8192_S256x256_0_5888 inb_S2x128x256_S1x1x256_1_95_0 inb_S8192x256_S32x256_6112_0 x,
    fun x => B 5888 192 0 95 6080 (by decide) rfl rfl slices_S256x256_o192_0_S32x256 inb_S256x8192_S256x256_0_5888 inb_S2x128x256_S1x1x256_0_95_0 inb_S8192x256_S32x256_6080_0 x,
    fun x => B 5888 160 1 94 6048 (by decide) rfl rfl slices_S256x256_o160_0_S32x256 inb_S256x8192_S256x256_0_5888 inb_S2x128x256_S1x1x256_1_94_0 inb_S8192x256_S32x256_6048_0 x,
    fun x => B 5888 128 0 94 6016 (by decide) rfl rfl slices_S256x256_o128_0_S32x256 inb_S256x8192_S256x256_0_5888 inb_S2x128x256_S1x1x256_0_94_0 inb_S8192x256_S32x256_6016_0 x,
    fun x => B 5888 96 1 93 5984 (by decide) rfl rfl slices_S256x256_o96_0_S32x256 inb_S256x8192_S256x256_0_5888 inb_S2x128x256_S1x1x256_1_93_0 inb_S8192x256_S32x256_5984_0 x,
    fun x => B 5888 64 0 93 5952 (by decide) rfl rfl slices_S256x256_o64_0_S32x256 inb_S256x8192_S256x256_0_5888 inb_S2x128x256_S1x1x256_0_93_0 inb_S8192x256_S32x256_5952_0 x,
    fun x => B 5888 32 1 92 5920 (by decide) rfl rfl slices_S256x256_o32_0_S32x256 inb_S256x8192_S256x256_0_5888 inb_S2x128x256_S1x1x256_1_92_0 inb_S8192x256_S32x256_5920_0 x,
    fun x => B 5888 0 0 92 5888 (by decide) rfl rfl slices_S256x256_o0_0_S32x256 inb_S256x8192_S256x256_0_5888 inb_S2x128x256_S1x1x256_0_92_0 inb_S8192x256_S32x256_5888_0 x,
    fun x => B 5632 224 1 91 5856 (by decide) rfl rfl slices_S256x256_o224_0_S32x256 inb_S256x8192_S256x256_0_5632 inb_S2x128x256_S1x1x256_1_91_0 inb_S8192x256_S32x256_5856_0 x,
    fun x => B 5632 192 0 91 5824 (by decide) rfl rfl slices_S256x256_o192_0_S32x256 inb_S256x8192_S256x256_0_5632 inb_S2x128x256_S1x1x256_0_91_0 inb_S8192x256_S32x256_5824_0 x,
    fun x => B 5632 160 1 90 5792 (by decide) rfl rfl slices_S256x256_o160_0_S32x256 inb_S256x8192_S256x256_0_5632 inb_S2x128x256_S1x1x256_1_90_0 inb_S8192x256_S32x256_5792_0 x,
    fun x => B 5632 128 0 90 5760 (by decide) rfl rfl slices_S256x256_o128_0_S32x256 inb_S256x8192_S256x256_0_5632 inb_S2x128x256_S1x1x256_0_90_0 inb_S8192x256_S32x256_5760_0 x,
    fun x => B 5632 96 1 89 5728 (by decide) rfl rfl slices_S256x256_o96_0_S32x256 inb_S256x8192_S256x256_0_5632 inb_S2x128x256_S1x1x256_1_89_0 inb_S8192x256_S32x256_5728_0 x,
    fun x => B 5632 64 0 89 5696 (by decide) rfl rfl slices_S256x256_o64_0_S32x256 inb_S256x8192_S256x256_0_5632 inb_S2x128x256_S1x1x256_0_89_0 inb_S8192x256_S32x256_5696_0 x,
    fun x => B 5632 32 1 88 5664 (by decide) rfl rfl slices_S256x256_o32_0_S32x256 inb_S256x8192_S256x256_0_5632 inb_S2x128x256_S1x1x256_1_88_0 inb_S8192x256_S32x256_5664_0 x,
    fun x => B 5632 0 0 88 5632 (by decide) rfl rfl slices_S256x256_o0_0_S32x256 inb_S256x8192_S256x256_0_5632 inb_S2x128x256_S1x1x256_0_88_0 inb_S8192x256_S32x256_5632_0 x,
    fun x => B 5376 224 1 87 5600 (by decide) rfl rfl slices_S256x256_o224_0_S32x256 inb_S256x8192_S256x256_0_5376 inb_S2x128x256_S1x1x256_1_87_0 inb_S8192x256_S32x256_5600_0 x,
    fun x => B 5376 192 0 87 5568 (by decide) rfl rfl slices_S256x256_o192_0_S32x256 inb_S256x8192_S256x256_0_5376 inb_S2x128x256_S1x1x256_0_87_0 inb_S8192x256_S32x256_5568_0 x,
    fun x => B 5376 160 1 86 5536 (by decide) rfl rfl slices_S256x256_o160_0_S32x256 inb_S256x8192_S256x256_0_5376 inb_S2x128x256_S1x1x256_1_86_0 inb_S8192x256_S32x256_5536_0 x,
    fun x => B 5376 128 0 86 5504 (by decide) rfl rfl slices_S256x256_o128_0_S32x256 inb_S256x8192_S256x256_0_5376 inb_S2x128x256_S1x1x256_0_86_0 inb_S8192x256_S32x256_5504_0 x,
    fun x => B 5376 96 1 85 5472 (by decide) rfl rfl slices_S256x256_o96_0_S32x256 inb_S256x8192_S256x256_0_5376 inb_S2x128x256_S1x1x256_1_85_0 inb_S8192x256_S32x256_5472_0 x,
    fun x => B 5376 64 0 85 5440 (by decide) rfl rfl slices_S256x256_o64_0_S32x256 inb_S256x8192_S256x256_0_5376 inb_S2x128x256_S1x1x256_0_85_0 inb_S8192x256_S32x256_5440_0 x,
    fun x => B 5376 32 1 84 5408 (by decide) rfl rfl slices_S256x256_o32_0_S32x256 inb_S256x8192_S256x256_0_5376 inb_S2x128x256_S1x1x256_1_84_0 inb_S8192x256_S32x256_5408_0 x,
    fun x => B 5376 0 0 84 5376 (by decide) rfl rfl slices_S256x256_o0_0_S32x256 inb_S256x8192_S256x256_0_5376 inb_S2x128x256_S1x1x256_0_84_0 inb_S8192x256_S32x256_5376_0 x,
    fun x => B 5120 224 1 83 5344 (by decide) rfl rfl slices_S256x256_o224_0_S32x256 inb_S256x8192_S256x256_0_5120 inb_S2x128x256_S1x1x256_1_83_0 inb_S8192x256_S32x256_5344_0 x,
    fun x => B 5120 192 0 83 5312 (by decide) rfl rfl slices_S256x256_o192_0_S32x256 inb_S256x8192_S256x256_0_5120 inb_S2x128x256_S1x1x256_0_83_0 inb_S8192x256_S32x256_5312_0 x,
    fun x => B 5120 160 1 82 5280 (by decide) rfl rfl slices_S256x256_o160_0_S32x256 inb_S256x8192_S256x256_0_5120 inb_S2x128x256_S1x1x256_1_82_0 inb_S8192x256_S32x256_5280_0 x,
    fun x => B 5120 128 0 82 5248 (by decide) rfl rfl slices_S256x256_o128_0_S32x256 inb_S256x8192_S256x256_0_5120 inb_S2x128x256_S1x1x256_0_82_0 inb_S8192x256_S32x256_5248_0 x,
    fun x => B 5120 96 1 81 5216 (by decide) rfl rfl slices_S256x256_o96_0_S32x256 inb_S256x8192_S256x256_0_5120 inb_S2x128x256_S1x1x256_1_81_0 inb_S8192x256_S32x256_5216_0 x,
    fun x => B 5120 64 0 81 5184 (by decide) rfl rfl slices_S256x256_o64_0_S32x256 inb_S256x8192_S256x256_0_5120 inb_S2x128x256_S1x1x256_0_81_0 inb_S8192x256_S32x256_5184_0 x,
    fun x => B 5120 32 1 80 5152 (by decide) rfl rfl slices_S256x256_o32_0_S32x256 inb_S256x8192_S256x256_0_5120 inb_S2x128x256_S1x1x256_1_80_0 inb_S8192x256_S32x256_5152_0 x,
    fun x => B 5120 0 0 80 5120 (by decide) rfl rfl slices_S256x256_o0_0_S32x256 inb_S256x8192_S256x256_0_5120 inb_S2x128x256_S1x1x256_0_80_0 inb_S8192x256_S32x256_5120_0 x,
    fun x => B 4864 224 1 79 5088 (by decide) rfl rfl slices_S256x256_o224_0_S32x256 inb_S256x8192_S256x256_0_4864 inb_S2x128x256_S1x1x256_1_79_0 inb_S8192x256_S32x256_5088_0 x,
    fun x => B 4864 192 0 79 5056 (by decide) rfl rfl slices_S256x256_o192_0_S32x256 inb_S256x8192_S256x256_0_4864 inb_S2x128x256_S1x1x256_0_79_0 inb_S8192x256_S32x256_5056_0 x,
    fun x => B 4864 160 1 78 5024 (by decide) rfl rfl slices_S256x256_o160_0_S32x256 inb_S256x8192_S256x256_0_4864 inb_S2x128x256_S1x1x256_1_78_0 inb_S8192x256_S32x256_5024_0 x,
    fun x => B 4864 128 0 78 4992 (by decide) rfl rfl slices_S256x256_o128_0_S32x256 inb_S256x8192_S256x256_0_4864 inb_S2x128x256_S1x1x256_0_78_0 inb_S8192x256_S32x256_4992_0 x,
    fun x => B 4864 96 1 77 4960 (by decide) rfl rfl slices_S256x256_o96_0_S32x256 inb_S256x8192_S256x256_0_4864 inb_S2x128x256_S1x1x256_1_77_0 inb_S8192x256_S32x256_4960_0 x,
    fun x => B 4864 64 0 77 4928 (by decide) rfl rfl slices_S256x256_o64_0_S32x256 inb_S256x8192_S256x256_0_4864 inb_S2x128x256_S1x1x256_0_77_0 inb_S8192x256_S32x256_4928_0 x,
    fun x => B 4864 32 1 76 4896 (by decide) rfl rfl slices_S256x256_o32_0_S32x256 inb_S256x8192_S256x256_0_4864 inb_S2x128x256_S1x1x256_1_76_0 inb_S8192x256_S32x256_4896_0 x,
    fun x => B 4864 0 0 76 4864 (by decide) rfl rfl slices_S256x256_o0_0_S32x256 inb_S256x8192_S256x256_0_4864 inb_S2x128x256_S1x1x256_0_76_0 inb_S8192x256_S32x256_4864_0 x,
    fun x => B 4608 224 1 75 4832 (by decide) rfl rfl slices_S256x256_o224_0_S32x256 inb_S256x8192_S256x256_0_4608 inb_S2x128x256_S1x1x256_1_75_0 inb_S8192x256_S32x256_4832_0 x,
    fun x => B 4608 192 0 75 4800 (by decide) rfl rfl slices_S256x256_o192_0_S32x256 inb_S256x8192_S256x256_0_4608 inb_S2x128x256_S1x1x256_0_75_0 inb_S8192x256_S32x256_4800_0 x,
    fun x => B 4608 160 1 74 4768 (by decide) rfl rfl slices_S256x256_o160_0_S32x256 inb_S256x8192_S256x256_0_4608 inb_S2x128x256_S1x1x256_1_74_0 inb_S8192x256_S32x256_4768_0 x,
    fun x => B 4608 128 0 74 4736 (by decide) rfl rfl slices_S256x256_o128_0_S32x256 inb_S256x8192_S256x256_0_4608 inb_S2x128x256_S1x1x256_0_74_0 inb_S8192x256_S32x256_4736_0 x,
    fun x => B 4608 96 1 73 4704 (by decide) rfl rfl slices_S256x256_o96_0_S32x256 inb_S256x8192_S256x256_0_4608 inb_S2x128x256_S1x1x256_1_73_0 inb_S8192x256_S32x256_4704_0 x,
    fun x => B 4608 64 0 73 4672 (by decide) rfl rfl slices_S256x256_o64_0_S32x256 inb_S256x8192_S256x256_0_4608 inb_S2x128x256_S1x1x256_0_73_0 inb_S8192x256_S32x256_4672_0 x,
    fun x => B 4608 32 1 72 4640 (by decide) rfl rfl slices_S256x256_o32_0_S32x256 inb_S256x8192_S256x256_0_4608 inb_S2x128x256_S1x1x256_1_72_0 inb_S8192x256_S32x256_4640_0 x,
    fun x => B 4608 0 0 72 4608 (by decide) rfl rfl slices_S256x256_o0_0_S32x256 inb_S256x8192_S256x256_0_4608 inb_S2x128x256_S1x1x256_0_72_0 inb_S8192x256_S32x256_4608_0 x,
    fun x => B 4352 224 1 71 4576 (by decide) rfl rfl slices_S256x256_o224_0_S32x256 inb_S256x8192_S256x256_0_4352 inb_S2x128x256_S1x1x256_1_71_0 inb_S8192x256_S32x256_4576_0 x,
    fun x => B 4352 192 0 71 4544 (by decide) rfl rfl slices_S256x256_o192_0_S32x256 inb_S256x8192_S256x256_0_4352 inb_S2x128x256_S1x1x256_0_71_0 inb_S8192x256_S32x256_4544_0 x,
    fun x => B 4352 160 1 70 4512 (by decide) rfl rfl slices_S256x256_o160_0_S32x256 inb_S256x8192_S256x256_0_4352 inb_S2x128x256_S1x1x256_1_70_0 inb_S8192x256_S32x256_4512_0 x,
    fun x => B 4352 128 0 70 4480 (by decide) rfl rfl slices_S256x256_o128_0_S32x256 inb_S256x8192_S256x256_0_4352 inb_S2x128x256_S1x1x256_0_70_0 inb_S8192x256_S32x256_4480_0 x,
    fun x => B 4352 96 1 69 4448 (by decide) rfl rfl slices_S256x256_o96_0_S32x256 inb_S256x8192_S256x256_0_4352 inb_S2x128x256_S1x1x256_1_69_0 inb_S8192x256_S32x256_4448_0 x,
    fun x => B 4352 64 0 69 4416 (by decide) rfl rfl slices_S256x256_o64_0_S32x256 inb_S256x8192_S256x256_0_4352 inb_S2x128x256_S1x1x256_0_69_0 inb_S8192x256_S32x256_4416_0 x,
    fun x => B 4352 32 1 68 4384 (by decide) rfl rfl slices_S256x256_o32_0_S32x256 inb_S256x8192_S256x256_0_4352 inb_S2x128x256_S1x1x256_1_68_0 inb_S8192x256_S32x256_4384_0 x,
    fun x => B 4352 0 0 68 4352 (by decide) rfl rfl slices_S256x256_o0_0_S32x256 inb_S256x8192_S256x256_0_4352 inb_S2x128x256_S1x1x256_0_68_0 inb_S8192x256_S32x256_4352_0 x,
    fun x => B 4096 224 1 67 4320 (by decide) rfl rfl slices_S256x256_o224_0_S32x256 inb_S256x8192_S256x256_0_4096 inb_S2x128x256_S1x1x256_1_67_0 inb_S8192x256_S32x256_4320_0 x,
    fun x => B 4096 192 0 67 4288 (by decide) rfl rfl slices_S256x256_o192_0_S32x256 inb_S256x8192_S256x256_0_4096 inb_S2x128x256_S1x1x256_0_67_0 inb_S8192x256_S32x256_4288_0 x,
    fun x => B 4096 160 1 66 4256 (by decide) rfl rfl slices_S256x256_o160_0_S32x256 inb_S256x8192_S256x256_0_4096 inb_S2x128x256_S1x1x256_1_66_0 inb_S8192x256_S32x256_4256_0 x,
    fun x => B 4096 128 0 66 4224 (by decide) rfl rfl slices_S256x256_o128_0_S32x256 inb_S256x8192_S256x256_0_4096 inb_S2x128x256_S1x1x256_0_66_0 inb_S8192x256_S32x256_4224_0 x,
    fun x => B 4096 96 1 65 4192 (by decide) rfl rfl slices_S256x256_o96_0_S32x256 inb_S256x8192_S256x256_0_4096 inb_S2x128x256_S1x1x256_1_65_0 inb_S8192x256_S32x256_4192_0 x,
    fun x => B 4096 64 0 65 4160 (by decide) rfl rfl slices_S256x256_o64_0_S32x256 inb_S256x8192_S256x256_0_4096 inb_S2x128x256_S1x1x256_0_65_0 inb_S8192x256_S32x256_4160_0 x,
    fun x => B 4096 32 1 64 4128 (by decide) rfl rfl slices_S256x256_o32_0_S32x256 inb_S256x8192_S256x256_0_4096 inb_S2x128x256_S1x1x256_1_64_0 inb_S8192x256_S32x256_4128_0 x,
    fun x => B 4096 0 0 64 4096 (by decide) rfl rfl slices_S256x256_o0_0_S32x256 inb_S256x8192_S256x256_0_4096 inb_S2x128x256_S1x1x256_0_64_0 inb_S8192x256_S32x256_4096_0 x,
    fun x => B 3840 224 1 63 4064 (by decide) rfl rfl slices_S256x256_o224_0_S32x256 inb_S256x8192_S256x256_0_3840 inb_S2x128x256_S1x1x256_1_63_0 inb_S8192x256_S32x256_4064_0 x,
    fun x => B 3840 192 0 63 4032 (by decide) rfl rfl slices_S256x256_o192_0_S32x256 inb_S256x8192_S256x256_0_3840 inb_S2x128x256_S1x1x256_0_63_0 inb_S8192x256_S32x256_4032_0 x,
    fun x => B 3840 160 1 62 4000 (by decide) rfl rfl slices_S256x256_o160_0_S32x256 inb_S256x8192_S256x256_0_3840 inb_S2x128x256_S1x1x256_1_62_0 inb_S8192x256_S32x256_4000_0 x,
    fun x => B 3840 128 0 62 3968 (by decide) rfl rfl slices_S256x256_o128_0_S32x256 inb_S256x8192_S256x256_0_3840 inb_S2x128x256_S1x1x256_0_62_0 inb_S8192x256_S32x256_3968_0 x,
    fun x => B 3840 96 1 61 3936 (by decide) rfl rfl slices_S256x256_o96_0_S32x256 inb_S256x8192_S256x256_0_3840 inb_S2x128x256_S1x1x256_1_61_0 inb_S8192x256_S32x256_3936_0 x,
    fun x => B 3840 64 0 61 3904 (by decide) rfl rfl slices_S256x256_o64_0_S32x256 inb_S256x8192_S256x256_0_3840 inb_S2x128x256_S1x1x256_0_61_0 inb_S8192x256_S32x256_3904_0 x,
    fun x => B 3840 32 1 60 3872 (by decide) rfl rfl slices_S256x256_o32_0_S32x256 inb_S256x8192_S256x256_0_3840 inb_S2x128x256_S1x1x256_1_60_0 inb_S8192x256_S32x256_3872_0 x,
    fun x => B 3840 0 0 60 3840 (by decide) rfl rfl slices_S256x256_o0_0_S32x256 inb_S256x8192_S256x256_0_3840 inb_S2x128x256_S1x1x256_0_60_0 inb_S8192x256_S32x256_3840_0 x,
    fun x => B 3584 224 1 59 3808 (by decide) rfl rfl slices_S256x256_o224_0_S32x256 inb_S256x8192_S256x256_0_3584 inb_S2x128x256_S1x1x256_1_59_0 inb_S8192x256_S32x256_3808_0 x,
    fun x => B 3584 192 0 59 3776 (by decide) rfl rfl slices_S256x256_o192_0_S32x256 inb_S256x8192_S256x256_0_3584 inb_S2x128x256_S1x1x256_0_59_0 inb_S8192x256_S32x256_3776_0 x,
    fun x => B 3584 160 1 58 3744 (by decide) rfl rfl slices_S256x256_o160_0_S32x256 inb_S256x8192_S256x256_0_3584 inb_S2x128x256_S1x1x256_1_58_0 inb_S8192x256_S32x256_3744_0 x,
    fun x => B 3584 128 0 58 3712 (by decide) rfl rfl slices_S256x256_o128_0_S32x256 inb_S256x8192_S256x256_0_3584 inb_S2x128x256_S1x1x256_0_58_0 inb_S8192x256_S32x256_3712_0 x,
    fun x => B 3584 96 1 57 3680 (by decide) rfl rfl slices_S256x256_o96_0_S32x256 inb_S256x8192_S256x256_0_3584 inb_S2x128x256_S1x1x256_1_57_0 inb_S8192x256_S32x256_3680_0 x,
    fun x => B 3584 64 0 57 3648 (by decide) rfl rfl slices_S256x256_o64_0_S32x256 inb_S256x8192_S256x256_0_3584 inb_S2x128x256_S1x1x256_0_57_0 inb_S8192x256_S32x256_3648_0 x,
    fun x => B 3584 32 1 56 3616 (by decide) rfl rfl slices_S256x256_o32_0_S32x256 inb_S256x8192_S256x256_0_3584 inb_S2x128x256_S1x1x256_1_56_0 inb_S8192x256_S32x256_3616_0 x,
    fun x => B 3584 0 0 56 3584 (by decide) rfl rfl slices_S256x256_o0_0_S32x256 inb_S256x8192_S256x256_0_3584 inb_S2x128x256_S1x1x256_0_56_0 inb_S8192x256_S32x256_3584_0 x,
    fun x => B 3328 224 1 55 3552 (by decide) rfl rfl slices_S256x256_o224_0_S32x256 inb_S256x8192_S256x256_0_3328 inb_S2x128x256_S1x1x256_1_55_0 inb_S8192x256_S32x256_3552_0 x,
    fun x => B 3328 192 0 55 3520 (by decide) rfl rfl slices_S256x256_o192_0_S32x256 inb_S256x8192_S256x256_0_3328 inb_S2x128x256_S1x1x256_0_55_0 inb_S8192x256_S32x256_3520_0 x,
    fun x => B 3328 160 1 54 3488 (by decide) rfl rfl slices_S256x256_o160_0_S32x256 inb_S256x8192_S256x256_0_3328 inb_S2x128x256_S1x1x256_1_54_0 inb_S8192x256_S32x256_3488_0 x,
    fun x => B 3328 128 0 54 3456 (by decide) rfl rfl slices_S256x256_o128_0_S32x256 inb_S256x8192_S256x256_0_3328 inb_S2x128x256_S1x1x256_0_54_0 inb_S8192x256_S32x256_3456_0 x,
    fun x => B 3328 96 1 53 3424 (by decide) rfl rfl slices_S256x256_o96_0_S32x256 inb_S256x8192_S256x256_0_3328 inb_S2x128x256_S1x1x256_1_53_0 inb_S8192x256_S32x256_3424_0 x,
    fun x => B 3328 64 0 53 3392 (by decide) rfl rfl slices_S256x256_o64_0_S32x256 inb_S256x8192_S256x256_0_3328 inb_S2x128x256_S1x1x256_0_53_0 inb_S8192x256_S32x256_3392_0 x,
    fun x => B 3328 32 1 52 3360 (by decide) rfl rfl slices_S256x256_o32_0_S32x256 inb_S256x8192_S256x256_0_3328 inb_S2x128x256_S1x1x256_1_52_0 inb_S8192x256_S32x256_3360_0 x,
    fun x => B 3328 0 0 52 3328 (by decide) rfl rfl slices_S256x256_o0_0_S32x256 inb_S256x8192_S256x256_0_3328 inb_S2x128x256_S1x1x256_0_52_0 inb_S8192x256_S32x256_3328_0 x,
    fun x => B 3072 224 1 51 3296 (by decide) rfl rfl slices_S256x256_o224_0_S32x256 inb_S256x8192_S256x256_0_3072 inb_S2x128x256_S1x1x256_1_51_0 inb_S8192x256_S32x256_3296_0 x,
    fun x => B 3072 192 0 51 3264 (by decide) rfl rfl slices_S256x256_o192_0_S32x256 inb_S256x8192_S256x256_0_3072 inb_S2x128x256_S1x1x256_0_51_0 inb_S8192x256_S32x256_3264_0 x,
    fun x => B 3072 160 1 50 3232 (by decide) rfl rfl slices_S256x256_o160_0_S32x256 inb_S256x8192_S256x256_0_3072 inb_S2x128x256_S1x1x256_1_50_0 inb_S8192x256_S32x256_3232_0 x,
    fun x => B 3072 128 0 50 3200 (by decide) rfl rfl slices_S256x256_o128_0_S32x256 inb_S256x8192_S256x256_0_3072 inb_S2x128x256_S1x1x256_0_50_0 inb_S8192x256_S32x256_3200_0 x,
    fun x => B 3072 96 1 49 3168 (by decide) rfl rfl slices_S256x256_o96_0_S32x256 inb_S256x8192_S256x256_0_3072 inb_S2x128x256_S1x1x256_1_49_0 inb_S8192x256_S32x256_3168_0 x,
    fun x => B 3072 64 0 49 3136 (by decide) rfl rfl slices_S256x256_o64_0_S32x256 inb_S256x8192_S256x256_0_3072 inb_S2x128x256_S1x1x256_0_49_0 inb_S8192x256_S32x256_3136_0 x,
    fun x => B 3072 32 1 48 3104 (by decide) rfl rfl slices_S256x256_o32_0_S32x256 inb_S256x8192_S256x256_0_3072 inb_S2x128x256_S1x1x256_1_48_0 inb_S8192x256_S32x256_3104_0 x,
    fun x => B 3072 0 0 48 3072 (by decide) rfl rfl slices_S256x256_o0_0_S32x256 inb_S256x8192_S256x256_0_3072 inb_S2x128x256_S1x1x256_0_48_0 inb_S8192x256_S32x256_3072_0 x,
    fun x => B 2816 224 1 47 3040 (by decide) rfl rfl slices_S256x256_o224_0_S32x256 inb_S256x8192_S256x256_0_2816 inb_S2x128x256_S1x1x256_1_47_0 inb_S8192x256_S32x256_3040_0 x,
    fun x => B 2816 192 0 47 3008 (by decide) rfl rfl slices_S256x256_o192_0_S32x256 inb_S256x8192_S256x256_0_2816 inb_S2x128x256_S1x1x256_0_47_0 inb_S8192x256_S32x256_3008_0 x,
    fun x => B 2816 160 1 46 2976 (by decide) rfl rfl slices_S256x256_o160_0_S32x256 inb_S256x8192_S256x256_0_2816 inb_S2x128x256_S1x1x256_1_46_0 inb_S8192x256_S32x256_2976_0 x,
    fun x => B 2816 128 0 46 2944 (by decide) rfl rfl slices_S256x256_o128_0_S32x256 inb_S256x8192_S256x256_0_2816 inb_S2x128x256_S1x1x256_0_46_0 inb_S8192x256_S32x256_2944_0 x,
    fun x => B 2816 96 1 45 2912 (by decide) rfl rfl slices_S256x256_o96_0_S32x256 inb_S256x8192_S256x256_0_2816 inb_S2x128x256_S1x1x256_1_45_0 inb_S8192x256_S32x256_2912_0 x,
    fun x => B 2816 64 0 45 2880 (by decide) rfl rfl slices_S256x256_o64_0_S32x256 inb_S256x8192_S256x256_0_2816 inb_S2x128x256_S1x1x256_0_45_0 inb_S8192x256_S32x256_2880_0 x,
    fun x => B 2816 32 1 44 2848 (by decide) rfl rfl slices_S256x256_o32_0_S32x256 inb_S256x8192_S256x256_0_2816 inb_S2x128x256_S1x1x256_1_44_0 inb_S8192x256_S32x256_2848_0 x,
    fun x => B 2816 0 0 44 2816 (by decide) rfl rfl slices_S256x256_o0_0_S32x256 inb_S256x8192_S256x256_0_2816 inb_S2x128x256_S1x1x256_0_44_0 inb_S8192x256_S32x256_2816_0 x,
    fun x => B 2560 224 1 43 2784 (by decide) rfl rfl slices_S256x256_o224_0_S32x256 inb_S256x8192_S256x256_0_2560 inb_S2x128x256_S1x1x256_1_43_0 inb_S8192x256_S32x256_2784_0 x,
    fun x => B 2560 192 0 43 2752 (by decide) rfl rfl slices_S256x256_o192_0_S32x256 inb_S256x8192_S256x256_0_2560 inb_S2x128x256_S1x1x256_0_43_0 inb_S8192x256_S32x256_2752_0 x,
    fun x => B 2560 160 1 42 2720 (by decide) rfl rfl slices_S256x256_o160_0_S32x256 inb_S256x8192_S256x256_0_2560 inb_S2x128x256_S1x1x256_1_42_0 inb_S8192x256_S32x256_2720_0 x,
    fun x => B 2560 128 0 42 2688 (by decide) rfl rfl slices_S256x256_o128_0_S32x256 inb_S256x8192_S256x256_0_2560 inb_S2x128x256_S1x1x256_0_42_0 inb_S8192x256_S32x256_2688_0 x,
    fun x => B 2560 96 1 41 2656 (by decide) rfl rfl slices_S256x256_o96_0_S32x256 inb_S256x8192_S256x256_0_2560 inb_S2x128x256_S1x1x256_1_41_0 inb_S8192x256_S32x256_2656_0 x,
    fun x => B 2560 64 0 41 2624 (by decide) rfl rfl slices_S256x256_o64_0_S32x256 inb_S256x8192_S256x256_0_2560 inb_S2x128x256_S1x1x256_0_41_0 inb_S8192x256_S32x256_2624_0 x,
    fun x => B 2560 32 1 40 2592 (by decide) rfl rfl slices_S256x256_o32_0_S32x256 inb_S256x8192_S256x256_0_2560 inb_S2x128x256_S1x1x256_1_40_0 inb_S8192x256_S32x256_2592_0 x,
    fun x => B 2560 0 0 40 2560 (by decide) rfl rfl slices_S256x256_o0_0_S32x256 inb_S256x8192_S256x256_0_2560 inb_S2x128x256_S1x1x256_0_40_0 inb_S8192x256_S32x256_2560_0 x,
    fun x => B 2304 224 1 39 2528 (by decide) rfl rfl slices_S256x256_o224_0_S32x256 inb_S256x8192_S256x256_0_2304 inb_S2x128x256_S1x1x256_1_39_0 inb_S8192x256_S32x256_2528_0 x,
    fun x => B 2304 192 0 39 2496 (by decide) rfl rfl slices_S256x256_o192_0_S32x256 inb_S256x8192_S256x256_0_2304 inb_S2x128x256_S1x1x256_0_39_0 inb_S8192x256_S32x256_2496_0 x,
    fun x => B 2304 160 1 38 2464 (by decide) rfl rfl slices_S256x256_o160_0_S32x256 inb_S256x8192_S256x256_0_2304 inb_S2x128x256_S1x1x256_1_38_0 inb_S8192x256_S32x256_2464_0 x,
    fun x => B 2304 128 0 38 2432 (by decide) rfl rfl slices_S256x256_o128_0_S32x256 inb_S256x8192_S256x256_0_2304 inb_S2x128x256_S1x1x256_0_38_0 inb_S8192x256_S32x256_2432_0 x,
    fun x => B 2304 96 1 37 2400 (by decide) rfl rfl slices_S256x256_o96_0_S32x256 inb_S256x8192_S256x256_0_2304 inb_S2x128x256_S1x1x256_1_37_0 inb_S8192x256_S32x256_2400_0 x,
    fun x => B 2304 64 0 37 2368 (by decide) rfl rfl slices_S256x256_o64_0_S32x256 inb_S256x8192_S256x256_0_2304 inb_S2x128x256_S1x1x256_0_37_0 inb_S8192x256_S32x256_2368_0 x,
    fun x => B 2304 32 1 36 2336 (by decide) rfl rfl slices_S256x256_o32_0_S32x256 inb_S256x8192_S256x256_0_2304 inb_S2x128x256_S1x1x256_1_36_0 inb_S8192x256_S32x256_2336_0 x,
    fun x => B 2304 0 0 36 2304 (by decide) rfl rfl slices_S256x256_o0_0_S32x256 inb_S256x8192_S256x256_0_2304 inb_S2x128x256_S1x1x256_0_36_0 inb_S8192x256_S32x256_2304_0 x,
    fun x => B 2048 224 1 35 2272 (by decide) rfl rfl slices_S256x256_o224_0_S32x256 inb_S256x8192_S256x256_0_2048 inb_S2x128x256_S1x1x256_1_35_0 inb_S8192x256_S32x256_2272_0 x,
    fun x => B 2048 192 0 35 2240 (by decide) rfl rfl slices_S256x256_o192_0_S32x256 inb_S256x8192_S256x256_0_2048 inb_S2x128x256_S1x1x256_0_35_0 inb_S8192x256_S32x256_2240_0 x,
    fun x => B 2048 160 1 34 2208 (by decide) rfl rfl slices_S256x256_o160_0_S32x256 inb_S256x8192_S256x256_0_2048 inb_S2x128x256_S1x1x256_1_34_0 inb_S8192x256_S32x256_2208_0 x,
    fun x => B 2048 128 0 34 2176 (by decide) rfl rfl slices_S256x256_o128_0_S32x256 inb_S256x8192_S256x256_0_2048 inb_S2x128x256_S1x1x256_0_34_0 inb_S8192x256_S32x256_2176_0 x,
    fun x => B 2048 96 1 33 2144 (by decide) rfl rfl slices_S256x256_o96_0_S32x256 inb_S256x8192_S256x256_0_2048 inb_S2x128x256_S1x1x256_1_33_0 inb_S8192x256_S32x256_2144_0 x,
    fun x => B 2048 64 0 33 2112 (by decide) rfl rfl slices_S256x256_o64_0_S32x256 inb_S256x8192_S256x256_0_2048 inb_S2x128x256_S1x1x256_0_33_0 inb_S8192x256_S32x256_2112_0 x,
    fun x => B 2048 32 1 32 2080 (by decide) rfl rfl slices_S256x256_o32_0_S32x256 inb_S256x8192_S256x256_0_2048 inb_S2x128x256_S1x1x256_1_32_0 inb_S8192x256_S32x256_2080_0 x,
    fun x => B 2048 0 0 32 2048 (by decide) rfl rfl slices_S256x256_o0_0_S32x256 inb_S256x8192_S256x256_0_2048 inb_S2x128x256_S1x1x256_0_32_0 inb_S8192x256_S32x256_2048_0 x,
    fun x => B 1792 224 1 31 2016 (by decide) rfl rfl slices_S256x256_o224_0_S32x256 inb_S256x8192_S256x256_0_1792 inb_S2x128x256_S1x1x256_1_31_0 inb_S8192x256_S32x256_2016_0 x,
    fun x => B 1792 192 0 31 1984 (by decide) rfl rfl slices_S256x256_o192_0_S32x256 inb_S256x8192_S256x256_0_1792 inb_S2x128x256_S1x1x256_0_31_0 inb_S8192x256_S32x256_1984_0 x,
    fun x => B 1792 160 1 30 1952 (by decide) rfl rfl slices_S256x256_o160_0_S32x256 inb_S256x8192_S256x256_0_1792 inb_S2x128x256_S1x1x256_1_30_0 inb_S8192x256_S32x256_1952_0 x,
    fun x => B 1792 128 0 30 1920 (by decide) rfl rfl slices_S256x256_o128_0_S32x256 inb_S256x8192_S256x256_0_1792 inb_S2x128x256_S1x1x256_0_30_0 inb_S8192x256_S32x256_1920_0 x,
    fun x => B 1792 96 1 29 1888 (by decide) rfl rfl slices_S256x256_o96_0_S32x256 inb_S256x8192_S256x256_0_1792 inb_S2x128x256_S1x1x256_1_29_0 inb_S8192x256_S32x256_1888_0 x,
    fun x => B 1792 64 0 29 1856 (by decide) rfl rfl slices_S256x256_o64_0_S32x256 inb_S256x8192_S256x256_0_1792 inb_S2x128x256_S1x1x256_0_29_0 inb_S8192x256_S32x256_1856_0 x,
    fun x => B 1792 32 1 28 1824 (by decide) rfl rfl slices_S256x256_o32_0_S32x256 inb_S256x8192_S256x256_0_1792 inb_S2x128x256_S1x1x256_1_28_0 inb_S8192x256_S32x256_1824_0 x,
    fun x => B 1792 0 0 28 1792 (by decide) rfl rfl slices_S256x256_o0_0_S32x256 inb_S256x8192_S256x256_0_1792 inb_S2x128x256_S1x1x256_0_28_0 inb_S8192x256_S32x256_1792_0 x,
    fun x => B 1536 224 1 27 1760 (by decide) rfl rfl slices_S256x256_o224_0_S32x256 inb_S256x8192_S256x256_0_1536 inb_S2x128x256_S1x1x256_1_27_0 inb_S8192x256_S32x256_1760_0 x,
    fun x => B 1536 192 0 27 1728 (by decide) rfl rfl slices_S256x256_o192_0_S32x256 inb_S256x8192_S256x256_0_1536 inb_S2x128x256_S1x1x256_0_27_0 inb_S8192x256_S32x256_1728_0 x,
    fun x => B 1536 160 1 26 1696 (by decide) rfl rfl slices_S256x256_o160_0_S32x256 inb_S256x8192_S256x256_0_1536 inb_S2x128x256_S1x1x256_1_26_0 inb_S8192x256_S32x256_1696_0 x,
    fun x => B 1536 128 0 26 1664 (by decide) rfl rfl slices_S256x256_o128_0_S32x256 inb_S256x8192_S256x256_0_1536 inb_S2x128x256_S1x1x256_0_26_0 inb_S8192x256_S32x256_1664_0 x,
    fun x => B 1536 96 1 25 1632 (by decide) rfl rfl slices_S256x256_o96_0_S32x256 inb_S256x8192_S256x256_0_1536 inb_S2x128x256_S1x1x256_1_25_0 inb_S8192x256_S32x256_1632_0 x,
    fun x => B 1536 64 0 25 1600 (by decide) rfl rfl slices_S256x256_o64_0_S32x256 inb_S256x8192_S256x256_0_1536 inb_S2x128x256_S1x1x256_0_25_0 inb_S8192x256_S32x256_1600_0 x,
    fun x => B 1536 32 1 24 1568 (by decide) rfl rfl slices_S256x256_o32_0_S32x256 inb_S256x8192_S256x256_0_1536 inb_S2x128x256_S1x1x256_1_24_0 inb_S8192x256_S32x256_1568_0 x,
    fun x => B 1536 0 0 24 1536 (by decide) rfl rfl slices_S256x256_o0_0_S32x256 inb_S256x8192_S256x256_0_1536 inb_S2x128x256_S1x1x256_0_24_0 inb_S8192x256_S32x256_1536_0 x,
    fun x => B 1280 224 1 23 1504 (by decide) rfl rfl slices_S256x256_o224_0_S32x256 inb_S256x8192_S256x256_0_1280 inb_S2x128x256_S1x1x256_1_23_0 inb_S8192x256_S32x256_1504_0 x,
    fun x => B 1280 192 0 23 1472 (by decide) rfl rfl slices_S256x256_o192_0_S32x256 inb_S256x8192_S256x256_0_1280 inb_S2x128x256_S1x1x256_0_23_0 inb_S8192x256_S32x256_1472_0 x,
    fun x => B 1280 160 1 22 1440 (by decide) rfl rfl slices_S256x256_o160_0_S32x256 inb_S256x8192_S256x256_0_1280 inb_S2x128x256_S1x1x256_1_22_0 inb_S8192x256_S32x256_1440_0 x,
    fun x => B 1280 128 0 22 1408 (by decide) rfl rfl slices_S256x256_o128_0_S32x256 inb_S256x8192_S256x256_0_1280 inb_S2x128x256_S1x1x256_0_22_0 inb_S8192x256_S32x256_1408_0 x,
    fun x => B 1280 96 1 21 1376 (by decide) rfl rfl slices_S256x256_o96_0_S32x256 inb_S256x8192_S256x256_0_1280 inb_S2x128x256_S1x1x256_1_21_0 inb_S8192x256_S32x256_1376_0 x,
    fun x => B 1280 64 0 21 1344 (by decide) rfl rfl slices_S256x256_o64_0_S32x256 inb_S256x8192_S256x256_0_1280 inb_S2x128x256_S1x1x256_0_21_0 inb_S8192x256_S32x256_1344_0 x,
    fun x => B 1280 32 1 20 1312 (by decide) rfl rfl slices_S256x256_o32_0_S32x256 inb_S256x8192_S256x256_0_1280 inb_S2x128x256_S1x1x256_1_20_0 inb_S8192x256_S32x256_1312_0 x,
    fun x => B 1280 0 0 20 1280 (by decide) rfl rfl slices_S256x256_o0_0_S32x256 inb_S256x8192_S256x256_0_1280 inb_S2x128x256_S1x1x256_0_20_0 inb_S8192x256_S32x256_1280_0 x,
    fun x => B 1024 224 1 19 1248 (by decide) rfl rfl slices_S256x256_o224_0_S32x256 inb_S256x8192_S256x256_0_1024 inb_S2x128x256_S1x1x256_1_19_0 inb_S8192x256_S32x256_1248_0 x,
    fun x => B 1024 192 0 19 1216 (by decide) rfl rfl slices_S256x256_o192_0_S32x256 inb_S256x8192_S256x256_0_1024 inb_S2x128x256_S1x1x256_0_19_0 inb_S8192x256_S32x256_1216_0 x,
    fun x => B 1024 160 1 18 1184 (by decide) rfl rfl slices_S256x256_o160_0_S32x256 inb_S256x8192_S256x256_0_1024 inb_S2x128x256_S1x1x256_1_18_0 inb_S8192x256_S32x256_1184_0 x,
    fun x => B 1024 128 0 18 1152 (by decide) rfl rfl slices_S256x256_o128_0_S32x256 inb_S256x8192_S256x256_0_1024 inb_S2x128x256_S1x1x256_0_18_0 inb_S8192x256_S32x256_1152_0 x,
    fun x => B 1024 96 1 17 1120 (by decide) rfl rfl slices_S256x256_o96_0_S32x256 inb_S256x8192_S256x256_0_1024 inb_S2x128x256_S1x1x256_1_17_0 inb_S8192x256_S32x256_1120_0 x,
    fun x => B 1024 64 0 17 1088 (by decide) rfl rfl slices_S256x256_o64_0_S32x256 inb_S256x8192_S256x256_0_1024 inb_S2x128x256_S1x1x256_0_17_0 inb_S8192x256_S32x256_1088_0 x,
    fun x => B 1024 32 1 16 1056 (by decide) rfl rfl slices_S256x256_o32_0_S32x256 inb_S256x8192_S256x256_0_1024 inb_S2x128x256_S1x1x256_1_16_0 inb_S8192x256_S32x256_1056_0 x,
    fun x => B 1024 0 0 16 1024 (by decide) rfl rfl slices_S256x256_o0_0_S32x256 inb_S256x8192_S256x256_0_1024 inb_S2x128x256_S1x1x256_0_16_0 inb_S8192x256_S32x256_1024_0 x,
    fun x => B 768 224 1 15 992 (by decide) rfl rfl slices_S256x256_o224_0_S32x256 inb_S256x8192_S256x256_0_768 inb_S2x128x256_S1x1x256_1_15_0 inb_S8192x256_S32x256_992_0 x,
    fun x => B 768 192 0 15 960 (by decide) rfl rfl slices_S256x256_o192_0_S32x256 inb_S256x8192_S256x256_0_768 inb_S2x128x256_S1x1x256_0_15_0 inb_S8192x256_S32x256_960_0 x,
    fun x => B 768 160 1 14 928 (by decide) rfl rfl slices_S256x256_o160_0_S32x256 inb_S256x8192_S256x256_0_768 inb_S2x128x256_S1x1x256_1_14_0 inb_S8192x256_S32x256_928_0 x,
    fun x => B 768 128 0 14 896 (by decide) rfl rfl slices_S256x256_o128_0_S32x256 inb_S256x8192_S256x256_0_768 inb_S2x128x256_S1x1x256_0_14_0 inb_S8192x256_S32x256_896_0 x,
    fun x => B 768 96 1 13 864 (by decide) rfl rfl slices_S256x256_o96_0_S32x256 inb_S256x8192_S256x256_0_768 inb_S2x128x256_S1x1x256_1_13_0 inb_S8192x256_S32x256_864_0 x,
    fun x => B 768 64 0 13 832 (by decide) rfl rfl slices_S256x256_o64_0_S32x256 inb_S256x8192_S256x256_0_768 inb_S2x128x256_S1x1x256_0_13_0 inb_S8192x256_S32x256_832_0 x,
    fun x => B 768 32 1 12 800 (by decide) rfl rfl slices_S256x256_o32_0_S32x256 inb_S256x8192_S256x256_0_768 inb_S2x128x256_S1x1x256_1_12_0 inb_S8192x256_S32x256_800_0 x,
    fun x => B 768 0 0 12 768 (by decide) rfl rfl slices_S256x256_o0_0_S32x256 inb_S256x8192_S256x256_0_768 inb_S2x128x256_S1x1x256_0_12_0 inb_S8192x256_S32x256_768_0 x,
    fun x => B 512 224 1 11 736 (by decide) rfl rfl slices_S256x256_o224_0_S32x256 inb_S256x8192_S256x256_0_512 inb_S2x128x256_S1x1x256_1_11_0 inb_S8192x256_S32x256_736_0 x,
    fun x => B 512 192 0 11 704 (by decide) rfl rfl slices_S256x256_o192_0_S32x256 inb_S256x8192_S256x256_0_512 inb_S2x128x256_S1x1x256_0_11_0 inb_S8192x256_S32x256_704_0 x,
    fun x => B 512 160 1 10 672 (by decide) rfl rfl slices_S256x256_o160_0_S32x256 inb_S256x8192_S256x256_0_512 inb_S2x128x256_S1x1x256_1_10_0 inb_S8192x256_S32x256_672_0 x,
    fun x => B 512 128 0 10 640 (by decide) rfl rfl slices_S256x256_o128_0_S32x256 inb_S256x8192_S256x256_0_512 inb_S2x128x256_S1x1x256_0_10_0 inb_S8192x256_S32x256_640_0 x,
    fun x => B 512 96 1 9 608 (by decide) rfl rfl slices_S256x256_o96_0_S32x256 inb_S256x8192_S256x256_0_512 inb_S2x128x256_S1x1x256_1_9_0 inb_S8192x256_S32x256_608_0 x,
    fun x => B 512 64 0 9 576 (by decide) rfl rfl slices_S256x256_o64_0_S32x256 inb_S256x8192_S256x256_0_512 inb_S2x128x256_S1x1x256_0_9_0 inb_S8192x256_S32x256_576_0 x,
    fun x => B 512 32 1 8 544 (by decide) rfl rfl slices_S256x256_o32_0_S32x256 inb_S256x8192_S256x256_0_512 inb_S2x128x256_S1x1x256_1_8_0 inb_S8192x256_S32x256_544_0 x,
    fun x => B 512 0 0 8 512 (by decide) rfl rfl slices_S256x256_o0_0_S32x256 inb_S256x8192_S256x256_0_512 inb_S2x128x256_S1x1x256_0_8_0 inb_S8192x256_S32x256_512_0 x,
    fun x => B 256 224 1 7 480 (by decide) rfl rfl slices_S256x256_o224_0_S32x256 inb_S256x8192_S256x256_0_256 inb_S2x128x256_S1x1x256_1_7_0 inb_S8192x256_S32x256_480_0 x,
    fun x => B 256 192 0 7 448 (by decide) rfl rfl slices_S256x256_o192_0_S32x256 inb_S256x8192_S256x256_0_256 inb_S2x128x256_S1x1x256_0_7_0 inb_S8192x256_S32x256_448_0 x,
    fun x => B 256 160 1 6 416 (by decide) rfl rfl slices_S256x256_o160_0_S32x256 inb_S256x8192_S256x256_0_256 inb_S2x128x256_S1x1x256_1_6_0 inb_S8192x256_S32x256_416_0 x,
    fun x => B 256 128 0 6 384 (by decide) rfl rfl slices_S256x256_o128_0_S32x256 inb_S256x8192_S256x256_0_256 inb_S2x128x256_S1x1x256_0_6_0 inb_S8192x256_S32x256_384_0 x,
    fun x => B 256 96 1 5 352 (by decide) rfl rfl slices_S256x256_o96_0_S32x256 inb_S256x8192_S256x256_0_256 inb_S2x128x256_S1x1x256_1_5_0 inb_S8192x256_S32x256_352_0 x,
    fun x => B 256 64 0 5 320 (by decide) rfl rfl slices_S256x256_o64_0_S32x256 inb_S256x8192_S256x256_0_256 inb_S2x128x256_S1x1x256_0_5_0 inb_S8192x256_S32x256_320_0 x,
    fun x => B 256 32 1 4 288 (by decide) rfl rfl slices_S256x256_o32_0_S32x256 inb_S256x8192_S256x256_0_256 inb_S2x128x256_S1x1x256_1_4_0 inb_S8192x256_S32x256_288_0 x,
    fun x => B 256 0 0 4 256 (by decide) rfl rfl slices_S256x256_o0_0_S32x256 inb_S256x8192_S256x256_0_256 inb_S2x128x256_S1x1x256_0_4_0 inb_S8192x256_S32x256_256_0 x,
    fun x => B 0 224 1 3 224 (by decide) rfl rfl slices_S256x256_o224_0_S32x256 inb_S256x8192_S256x256_0_0 inb_S2x128x256_S1x1x256_1_3_0 inb_S8192x256_S32x256_224_0 x,
    fun x => B 0 192 0 3 192 (by decide) rfl rfl slices_S256x256_o192_0_S32x256 inb_S256x8192_S256x256_0_0 inb_S2x128x256_S1x1x256_0_3_0 inb_S8192x256_S32x256_192_0 x,
    fun x => B 0 160 1 2 160 (by decide) rfl rfl slices_S256x256_o160_0_S32x256 inb_S256x8192_S256x256_0_0 inb_S2x128x256_S1x1x256_1_2_0 inb_S8192x256_S32x256_160_0 x,
    fun x => B 0 128 0 2 128 (by decide) rfl rfl slices_S256x256_o128_0_S32x256 inb_S256x8192_S256x256_0_0 inb_S2x128x256_S1x1x256_0_2_0 inb_S8192x256_S32x256_128_0 x,
    fun x => B 0 96 1 1 96 (by decide) rfl rfl slices_S256x256_o96_0_S32x256 inb_S256x8192_S256x256_0_0 inb_S2x128x256_S1x1x256_1_1_0 inb_S8192x256_S32x256_96_0 x,
    fun x => B 0 64 0 1 64 (by decide) rfl rfl slices_S256x256_o64_0_S32x256 inb_S256x8192_S256x256_0_0 inb_S2x128x256_S1x1x256_0_1_0 inb_S8192x256_S32x256_64_0 x,
    fun x => B 0 32 1 0 32 (by decide) rfl rfl slices_S256x256_o32_0_S32x256 inb_S256x8192_S256x256_0_0 inb_S2x128x256_S1x1x256_1_0_0 inb_S8192x256_S32x256_32_0 x,
    fun x => B 0 0 0 0 0 (by decide) rfl rfl slices_S256x256_o0_0_S32x256 inb_S256x8192_S256x256_0_0 inb_S2x128x256_S1x1x256_0_0_0 inb_S8192x256_S32x256_0_0 x,
    trivial⟩

/-- So the scratch, read back, is `weights`. -/
theorem weights_canon (c : Dev nD) (arg2 : Memref sig .tc .vmem S256x8192 .i8) (harg2 : arg2.IsWhole)
    (arg3 : Memref sig .tc .vmem S256x256 .i16) (harg3 : arg3.IsWhole) (arg6 : Memref sig .tc .vmem S2x128x256 .f32)
    (x1 : Vec Ideal S256x8192 .i8) (x2 : Vec Ideal S256x256 .i16) :
    View.canon (kernelRun0_A.sl.HS0_256 (F := Ideal) c arg2 harg2 arg3 harg3 arg6 x1 x2) = weights x1 x2 := by
  funext y
  exact View.canon_apply_of_pieces (weights x1 x2) _ (weights_pieces c arg2 harg2 arg3 harg3 arg6 x1 x2).mem y
    (View.cover_of_tiledL (kernelRun0_A.sl.HS0_256 (F := Ideal) c arg2 harg2 arg3 harg3 arg6 x1 x2) S32x256.size
      (by sl_kernel_rfl) y)

end Cert.Proof

end
-- ==== Proof.Tile.lean ====
/- What one grid point leaves in its block of the result: the product of the whole activation array with the tile of
   dequantized weights. -/
module

public import proofs.«01_k».proof.Proof.Weights

@[expose] public section

set_option maxRecDepth 16384

noncomputable section

namespace Cert.Proof

open Idealize.ShloMosaic Cert.KernelIdeal Cert.KernelIdeal.Gen

/-- The block at (row `r`, column `j`): the sum over the 8192 features of activation times dequantized weight. -/
def tile (x0 : Vec Ideal S192x8192 .bf16) (x1 : Vec Ideal S256x8192 .i8) (x2 : Vec Ideal S256x256 .i16) :
    Vec Ideal S192x256 .bf16 := fun y =>
  ∑ k : Fin 8192, (x0 (ix2 (y 0) k) : EReal) * (weights x1 x2 (ix2 k (y 1)) : EReal)

/-- The body's last payload, a matmul into zeros, is that sum. -/
theorem product_apply (x0 : Vec Ideal S192x8192 .bf16) (w : Vec Ideal S8192x256 .bf16) (y : S192x256.Idx) :
    k0_pay334 (F := Ideal) x0 w y = ∑ k : Fin 8192, (x0 (ix2 (y 0) k) : EReal) * (w (ix2 k (y 1)) : EReal) := by
  pointwise [k0_pay334]

/-- What the body leaves in the result's buffer is `tile` of the blocks it is given. -/
theorem out_tile (c : Dev nD) (i : grid0.Coords) (arg1 : Memref sig .tc .vmem S192x8192 .bf16) (harg1 : arg1.IsWhole)
    (arg2 : Memref sig .tc .vmem S256x8192 .i8) (harg2 : arg2.IsWhole) (arg3 : Memref sig .tc .vmem S256x256 .i16)
    (harg3 : arg3.IsWhole) (arg4 : Memref sig .tc .vmem S192x256 .bf16) (harg4 : arg4.IsWhole)
    (arg5 : Memref sig .tc .vmem S8192x256 .bf16) (harg5 : arg5.IsWhole) (arg6 : Memref sig .tc .vmem S2x128x256 .f32)
    (harg6 : arg6.IsWhole) (x0 : Vec Ideal S192x8192 .bf16) (x1 : Vec Ideal S256x8192 .i8) (x2 : Vec Ideal S256x256 .i16) :
    out0_A_3 (F := Ideal) c i arg1 harg1 arg2 harg2 arg3 harg3 arg4 harg4 arg5 harg5 arg6 harg6 x0 x1 x2 = tile x0 x1 x2 := by
  have hz : (![0, 0] : Fin 2 → ℕ) = fun _ => 0 := by decide
  unfold out0_A_3
  rw [View.read_writes_junk_eq_canon]
  unfold kernelRun0_A
  dsimp only
  rw [View.canon_unit_zero hz]
  unfold kernelRun0_A.sl.r_87 kernelRun0_A.sl.v2499
  rw [View.readAt_eq_ld, harg1.read_unread, View.ld_unit_zero hz, View.readCov_eq_canon', weights_canon]
  funext y
  rw [product_apply]
  exact Finset.sum_congr rfl fun k _ => congrArg (fun w : EReal => (x0 (ix2 (y 0) k) : EReal) * w)
    (congrFun (View.ld_unit_zero hz inb_S8192x256_S8192x256_0_0 (weights x1 x2)) (ix2 k (y 1)))

end Cert.Proof

end
-- ==== Proof.Result.lean ====
/- The kernel's result after the run: the whole array main returns, as one function of the three arguments. Each of
   the 29 grid points writes 256 of the result's 7424 columns (`Tile.out_tile`), and together they cover it; main then
   puts the unit sequence axis back. -/
module

public import proofs.«01_k».proof.Proof.Linear
public import proofs.«01_k».proof.Proof.Tile
public import Idealize.ShloMosaic.Lib.Pipeline.ValueKit.Point

@[expose] public section

set_option maxRecDepth 16384

noncomputable section

namespace Cert.Proof

open Idealize.ShloMosaic Cert.KernelIdeal Cert.KernelIdeal.Gen Idealize.ShloMosaic.TcCoe Idealize.SL.Sem
open Idealize.ShloMosaic.Pipeline (Dat Cfg Window)

variable (m : (ℓ : Loc nD τ sig) → Buf (Elt Ideal) ℓ) (ρ : Dev nD → PrngReg)

/-- The index maps over the 29 points: window 0's block is the whole array, windows 1 and 2 take row block `t`,
    window 3 column block `t`. -/
theorem idx0 : ∀ t : Fin cfg0.N, win0_0.index t = ![0, 0] :=
  (by decide +kernel : ∀ t : Fin grid0.N, win0_0.index t = ![0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, t.val] :=
  (by decide +kernel : ∀ t : Fin grid0.N, win0_3.index t = ![0, t.val])

/-- A tile of blocks of the three arguments is the layer's output at the block's place. -/
theorem tile_linear (x0 : Vec Ideal S192x8192 .bf16) (x1 : Vec Ideal S256x8192 .i8) (x2 : Vec Ideal S256x256 .i16)
    (a0 : Vec Ideal S192x1x8192 .bf16) (a1 : Vec Ideal S7424x8192 .i8) (a2 : Vec Ideal S7424x256 .i16)
    (y : S192x256.Idx) (r : Fin 192) (o : Fin 7424) (h0 : ∀ k, x0 (ix2 (y 0) k) = a0 (ix3 r 0 k))
    (h1 : ∀ k, x1 (ix2 (y 1) k) = a1 (ix2 o k)) (h2 : ∀ k, x2 (ix2 (y 1) k) = a2 (ix2 o k)) :
    tile x0 x1 x2 y = linear a0 a1 a2 r o := by
  unfold tile linear weights
  refine Finset.sum_congr rfl fun k _ => ?_
  exact congrArg₂ (fun a b : EReal => a * b) (h0 k)
    (congrArg₂ (fun (a : BitVec 8) (b : BitVec 16) => ((a.toInt : ℝ) : EReal) * Ideal.ofBits .f16 b) (h1 k)
      (h2 ⟨k.val / 32, by omega⟩))

/-- The unit axis dropped, at an index. -/
theorem drop_unit (X : Vec Ideal S192x1x8192 .bf16) (r : Fin 192) (k : Fin 8192) :
    shapeCast S192x8192 X shapeCasts_S192x1x8192_S192x8192 (ix2 r k) = X (ix3 r 0 k) := by
  pointwise

/-- A unit axis put in, at an index. -/
theorem put_unit (X : Vec Ideal S192x7424 .bf16) (i : S192x1x7424.Idx) :
    shapeCast S192x1x7424 X shapeCasts_S192x7424_S192x1x7424 i = X (ix2 (i 0) (i 2)) := by
  pointwise

/-- The region finds the activations with the unit axis dropped. -/
theorem V_main_v0 (c : Dev nD) : V m c main_v0
    = shapeCast S192x8192 (m ((c : Thread nD τ).loc main_arg0)) shapeCasts_S192x1x8192_S192x8192 := by
  show StableHlo.after hostOps0 _ (Proc.devRef .tc main_v0) = _
  after_results
  rfl

/-- Window 0's block is the activations, the unit axis dropped. -/
theorem iblk0_apply (c : Dev nD) (t : Fin cfg0.N) (r : Fin 192) (k : Fin 8192) :
    iblk m c 0 t (ix2 r k) = m ((c : Thread nD τ).loc main_arg0) (ix3 r 0 k) := by
  have e : (win0_0.blk t).view.emb (ix2 r k) = (ix2 r k : S192x8192.Idx) := by blk_ext [idx0 t]
  show V m c main_v0 ((win0_0.blk t).view.emb (ix2 r k)) = _
  rw [e, V_main_v0]
  exact drop_unit _ r k

/-- Window 1's block is 256 rows of the weights. -/
theorem iblk1_apply (c : Dev nD) (t : Fin cfg0.N) (r : Fin 256) (k : Fin 8192) (o : Fin 7424) (ho : o.val = t.val * 256 + r.val) :
    iblk m c 1 t (ix2 r k) = m ((c : Thread nD τ).loc main_arg1) (ix2 o k) := by
  rw [← V_main_arg1 m c]
  blk_ext! [iblk, idx1 t]

/-- Window 2's block is 256 rows of the scales. -/
theorem iblk2_apply (c : Dev nD) (t : Fin cfg0.N) (r : Fin 256) (k : Fin 256) (o : Fin 7424) (ho : o.val = t.val * 256 + r.val) :
    iblk m c 2 t (ix2 r k) = m ((c : Thread nD τ).loc main_arg2) (ix2 o k) := by
  rw [← V_main_arg2 m c]
  blk_ext! [iblk, idx2 t]

/-- The region's result array. -/
theorem final_v1 (c : Dev nD) : (dats m 0 c).arrAt 3 cfg0.N = (fun i : S192x7424.Idx =>
    linear (m ((c : Thread nD τ).loc main_arg0)) (m ((c : Thread nD τ).loc main_arg1)) (m ((c : Thread nD τ).loc main_arg2)) (i 0) (i 1)) := by
  refine (dats m 0 c).arrAt_eq_of_covers 3 _ (by decide +kernel) fun t hf y => ?_
  blk_simp
  rw [after0_3]
  unfold outsAt0
  rw [out_tile]
  have hy0 : (y 0).val < 192 := (y 0).isLt
  have hy1 : (y 1).val < 256 := (y 1).isLt
  have e0 : ((win0_3.blk t).view.emb y 0).val = (y 0).val := by blk_simp [idx3 t]
  have e1 : ((win0_3.blk t).view.emb y 1).val = t.val * 256 + (y 1).val := by blk_simp [idx3 t]
  exact tile_linear _ _ _ _ _ _ y _ _
    (fun k => (iblk0_apply m c t (y 0) k).trans (congrArg (fun r : Fin 192 => m ((c : Thread nD τ).loc main_arg0) (ix3 r 0 k)) (Fin.ext e0.symm)))
    (fun k => iblk1_apply m c t (y 1) k _ e1) (fun k => iblk2_apply m c t (y 1) k _ e1)

/-- What main returns: the region's array with the unit axis back. -/
theorem tail_v2 (c : Dev nD) : Pipeline.afterTail₀ cfgs (dats m) 0 (V0 m) [hostOps1] c main_v2
    = fun i : S192x1x7424.Idx => linear (m ((c : Thread nD τ).loc main_arg0)) (m ((c : Thread nD τ).loc main_arg1))
        (m ((c : Thread nD τ).loc main_arg2)) (i 0) (i 2) := by
  unfold Pipeline.afterTail₀
  dsimp only [List.flatten, List.append]
  after_results
  rw [show Pipeline.withArrays (cfgs 0).spec c (V0 m c) (fun w => (dats m 0 c).arrAt w (cfgs 0).N) (Proc.devRef .tc main_v1) = _ from
    (Pipeline.withArrays_arr spec0 winFacts0.arr_inj c (V0 m c) (fun w => (dats m 0 c).arrAt w (cfgs 0).N) 3).trans (final_v1 m c)]
  funext i
  exact put_unit _ i

/-- The kernel's run. -/
theorem kernel_run : θ_run defs (onTc (τ := τ) (main (F := Ideal))) ⟨m, fun _ => 0, ρ⟩ (fun r => ∀ c : Dev nD,
      r.2.mem ((c.tc : Thread nD τ).loc main_v2) = (fun i : S192x1x7424.Idx =>
        linear (m ((c : Thread nD τ).loc main_arg0)) (m ((c : Thread nD τ).loc main_arg1))
          (m ((c : Thread nD τ).loc main_arg2)) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).2 main_v2 (Pipeline.mem_restRefs_of main_v2 (by decide) (by decide))).trans (tail_v2 m c), h.2 c⟩)
    (θ_run_and (run_main m ρ) (unchanged m ρ))

end Cert.Proof

end
-- ==== Proof.Ref.lean ====
/- The reference's result after its run: its one gridless region stages the three whole arrays, and its one store leaves
   the layer's formula. -/
module

public import proofs.«01_k».proof.Proof.Linear
public import proofs.«01_k».proof.Proof.Gen.ReferenceIdeal.Value
public import Idealize.ShloMosaic.Lib.Pipeline.ValueKit.Point

@[expose] public section

set_option maxRecDepth 16384

noncomputable section

namespace Cert.Proof.Ref

open Idealize.ShloMosaic Cert.ReferenceIdeal Cert.ReferenceIdeal.Gen Idealize.ShloMosaic.TcCoe Idealize.SL.Sem
open Idealize.ShloMosaic.Pipeline (Dat Cfg Window)

/-- The body's payload, at an index. -/
theorem payload_apply (v0 : Vec Ideal S7424x8192 .i8) (v1 : Vec Ideal S7424x256 .f16) (v11 : Vec Ideal S192x1x8192 .bf16)
    (i : S192x1x7424.Idx) :
    k0_pay1 (F := Ideal) v0 v1 v11 i = ∑ k : Fin 8192, (v11 (ix3 (i 0) 0 k) : EReal) *
      ((((v0 (ix2 (i 2) k)).toInt : ℝ) : EReal) * (v1 (ix2 (i 2) (⟨k.val / 32, by omega⟩ : Fin 256)) : EReal)) := by
  pointwise [k0_pay1]
  exact Finset.sum_congr rfl fun k _ => congrArg₂ (fun a b : EReal => a * b)
    (congrArg v11 (congrArg (fun b : Fin 1 => ix3 (i 0) b k) (Subsingleton.elim (α := Fin 1) _ _))) rfl

variable (m : (ℓ : Loc nD τ sig) → Buf (Elt Ideal) ℓ) (ρ : Dev nD → PrngReg)

/-- The index maps at the one point: every block is its whole array. -/
theorem idx0 : ∀ t : Fin cfg0.N, win0_0.index t = ![0, 0, 0] :=
  (by decide +kernel : ∀ t : Fin grid0.N, win0_0.index t = ![0, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0, 0] :=
  (by decide +kernel : ∀ t : Fin grid0.N, win0_3.index t = ![0, 0, 0])

/-- The region finds the scales read as float16. -/
theorem V_main_v0 (c : Dev nD) (j : S7424x256.Idx) :
    V m c main_v0 j = Ideal.ofBits .f16 (m ((c : Thread nD τ).loc main_arg2) j) := by
  have h : V m c main_v0 = (bitcastToFloat (F := Ideal) .f16 (m ((c : Thread nD τ).loc main_arg2)) : Vec Ideal S7424x256 .f16) := by
    show StableHlo.after hostOps0 _ (Proc.devRef .tc main_v0) = _
    after_results
  rw [h]
  rfl

/-- Each input's block is its whole array. -/
theorem iblk0_eq (c : Dev nD) (t : Fin cfg0.N) (j : S192x1x8192.Idx) : iblk m c 0 t j = m ((c : Thread nD τ).loc main_arg0) j := by
  rw [← V_main_arg0 m c]
  have e : (win0_0.blk t).view.emb j = (j : S192x1x8192.Idx) := by blk_ext [idx0 t]
  exact congrArg (V m c main_arg0) e
theorem iblk1_eq (c : Dev nD) (t : Fin cfg0.N) (j : S7424x8192.Idx) : iblk m c 1 t j = m ((c : Thread nD τ).loc main_arg1) j := by
  rw [← V_main_arg1 m c]
  have e : (win0_1.blk t).view.emb j = (j : S7424x8192.Idx) := by blk_ext [idx1 t]
  exact congrArg (V m c main_arg1) e
theorem iblk2_eq (c : Dev nD) (t : Fin cfg0.N) (j : S7424x256.Idx) :
    iblk m c 2 t j = Ideal.ofBits .f16 (m ((c : Thread nD τ).loc main_arg2) j) := by
  rw [← V_main_v0 m c]
  have e : (win0_2.blk t).view.emb j = (j : S7424x256.Idx) := by blk_ext [idx2 t]
  exact congrArg (V m c main_v0) e

/-- The body's result from any three blocks is its payload of them. -/
theorem out_eq (x0 : Vec Ideal S192x1x8192 .bf16) (x1 : Vec Ideal S7424x8192 .i8) (x2 : Vec Ideal S7424x256 .f16) :
    out0_3 (F := Ideal) x0 x1 x2 = k0_pay1 x1 x2 x0 := by
  have hz3 : (![0, 0, 0] : Fin 3 → ℕ) = fun _ => 0 := by decide
  have hz2 : (![0, 0] : Fin 2 → ℕ) = fun _ => 0 := by decide
  unfold out0_3
  rw [View.canon_unit_zero hz3, View.ld_unit_zero hz2, View.ld_unit_zero hz2, View.ld_unit_zero hz3]

/-- The layer's formula from blocks that are the arrays. -/
theorem payload_linear (x0 : Vec Ideal S192x1x8192 .bf16) (x1 : Vec Ideal S7424x8192 .i8) (x2 : Vec Ideal S7424x256 .f16)
    (a0 : Vec Ideal S192x1x8192 .bf16) (a1 : Vec Ideal S7424x8192 .i8) (a2 : Vec Ideal S7424x256 .i16)
    (h0 : ∀ j, x0 j = a0 j) (h1 : ∀ j, x1 j = a1 j) (h2 : ∀ j, x2 j = Ideal.ofBits .f16 (a2 j)) (i : S192x1x7424.Idx) :
    k0_pay1 (F := Ideal) x1 x2 x0 i = linear a0 a1 a2 (i 0) (i 2) := by
  rw [payload_apply]
  exact Finset.sum_congr rfl fun k _ => congrArg₂ (fun a b : EReal => a * b) (h0 _)
    (congrArg₂ (fun (a : BitVec 8) (b : EReal) => ((a.toInt : ℝ) : EReal) * b) (h1 _) (h2 _))

/-- The result array. -/
theorem final_v1 (c : Dev nD) : (dats m 0 c).arrAt 3 cfg0.N = (fun i : S192x1x7424.Idx =>
    linear (m ((c : Thread nD τ).loc main_arg0)) (m ((c : Thread nD τ).loc main_arg1)) (m ((c : Thread nD τ).loc main_arg2)) (i 0) (i 2)) := by
  refine (dats m 0 c).arrAt_eq_of_covers 3 _ (by decide +kernel) fun t hf y => ?_
  blk_simp
  rw [after0_3, out_eq]
  have e : (win0_3.blk t).view.emb y = (y : S192x1x7424.Idx) := by blk_ext [idx3 t]
  rw [e]
  exact payload_linear _ _ _ _ _ _ (iblk0_eq m c t) (iblk1_eq m c t) (iblk2_eq m c t) y

/-- The reference's run. -/
theorem ref_run : θ_run defs (onTc (τ := τ) (main (F := Ideal))) ⟨m, fun _ => 0, ρ⟩ (fun r => ∀ c : Dev nD,
      r.2.mem ((c.tc : Thread nD τ).loc main_v1) = (fun i : S192x1x7424.Idx =>
        linear (m ((c : Thread nD τ).loc main_arg0)) (m ((c : Thread nD τ).loc main_arg1))
          (m ((c : Thread nD τ).loc main_arg2)) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_v1 m c), (h c).2⟩) (Cert.ReferenceIdeal.Value.run_blocks m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Result
public import proofs.«01_k».proof.Proof.Ref
public import Idealize.ShloMosaic.Adequacy
public import Idealize.ShloMosaic.Init

@[expose] public section

noncomputable section

namespace Cert.Proof

open Idealize.ShloMosaic Idealize.SL.Sem

/-- The idealized kernel and the reference return equal arrays: both return `linear` of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, kernel_run m g, (θ_run _ _ _).mono (fun r h c => ⟨(h c).1.trans ?_, (h c).2⟩) (Ref.ref_run m' g')⟩
  rw [(hagree c).1, (hagree c).2.1, (hagree c).2.2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
